-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_v20) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v100) = v0 c
          ∧ r.2.mem ((c.tc : Thread Cert.Reference5Ideal.nD Cert.Reference5Ideal.τ).loc Cert.Reference5Ideal.main_v101) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S8x512x2048 : Shape := ⟨3, ![8, 512, 2048]⟩
abbrev S8x2048x512 : Shape := ⟨3, ![8, 2048, 512]⟩
abbrev S8x8x256x256 : Shape := ⟨4, ![8, 8, 256, 256]⟩
abbrev S_ : Shape := ⟨0, ![]⟩
abbrev S8388608 : Shape := ⟨1, ![8388608]⟩
abbrev S4194304 : Shape := ⟨1, ![4194304]⟩
abbrev S20971520 : Shape := ⟨1, ![20971520]⟩

class Facts : Prop where
  bcast_S_S8x512x2048 : S_.BroadcastsInDim S8x512x2048 (![] : Fin 0 → Fin S8x512x2048.rank)
  shapeCasts_S8x512x2048_S8388608 : S8x512x2048.ShapeCasts S8388608
  bcast_S_S8x2048x512 : S_.BroadcastsInDim S8x2048x512 (![] : Fin 0 → Fin S8x2048x512.rank)
  shapeCasts_S8x2048x512_S8388608 : S8x2048x512.ShapeCasts S8388608
  bcast_S_S8x8x256x256 : S_.BroadcastsInDim S8x8x256x256 (![] : Fin 0 → Fin S8x8x256x256.rank)
  shapeCasts_S8x8x256x256_S4194304 : S8x8x256x256.ShapeCasts S4194304
  concatenates_S8388608_S8388608_S4194304_S20971520_d0 : Shape.Concatenates [S8388608, S8388608, S4194304] S20971520 0

variable [Facts]

def fn {F : FTy → Type} [FloatOps F] (main_arg0 : FVec F S8x512x2048 .bf16) (main_arg1 : FVec F S8x2048x512 .bf16) (main_arg2 : FVec F S8x512x2048 .bf16) (main_arg3 : FVec F S8x8x256x256 .f32) : IVec S20971520 1 :=
  let main_v0 : FVec F S8x512x2048 .bf16 := Host.absf main_arg0
  let main_cst : FVec F S_ .bf16 := constant S_ .bf16 0x7F80#16
  let main_v1 : FVec F S8x512x2048 .bf16 := broadcastInDim S8x512x2048 ![] bcast_S_S8x512x2048 main_cst
  let main_v2 : IVec S8x512x2048 1 := cmpf .olt main_v0 main_v1
  let main_v3 : IVec S8388608 1 := shapeCast S8388608 main_v2 shapeCasts_S8x512x2048_S8388608
  let main_v4 : FVec F S8x2048x512 .bf16 := Host.absf main_arg1
  let main_cst_0 : FVec F S_ .bf16 := constant S_ .bf16 0x7F80#16
  let main_v5 : FVec F S8x2048x512 .bf16 := broadcastInDim S8x2048x512 ![] bcast_S_S8x2048x512 main_cst_0
  let main_v6 : IVec S8x2048x512 1 := cmpf .olt main_v4 main_v5
  let main_v7 : IVec S8388608 1 := shapeCast S8388608 main_v6 shapeCasts_S8x2048x512_S8388608
  let main_v8 : FVec F S8x8x256x256 .f32 := Host.absf main_arg3
  let main_cst_1 : FVec F S_ .f32 := constant S_ .f32 0x7F800000#32
  let main_v9 : FVec F S8x8x256x256 .f32 := broadcastInDim S8x8x256x256 ![] bcast_S_S8x8x256x256 main_cst_1
  let main_v10 : IVec S8x8x256x256 1 := cmpf .olt main_v8 main_v9
  let main_v11 : IVec S4194304 1 := shapeCast S4194304 main_v10 shapeCasts_S8x8x256x256_S4194304
  let main_v12 : IVec S20971520 1 := concatenate S20971520 0 [⟨S8388608, main_v3⟩, ⟨S8388608, main_v7⟩, ⟨S4194304, main_v11⟩] concatenates_S8388608_S8388608_S4194304_S20971520_d0
  main_v12
-- ==== Kernel.lean ====
abbrev S8x512x2048 : Shape := ⟨3, ![8, 512, 2048]⟩
abbrev S8x2048x512 : Shape := ⟨3, ![8, 2048, 512]⟩
abbrev S8x8x256x256 : Shape := ⟨4, ![8, 8, 256, 256]⟩
abbrev S1x128x2048 : Shape := ⟨3, ![1, 128, 2048]⟩
abbrev S1x2048x128 : Shape := ⟨3, ![1, 2048, 128]⟩
abbrev S2x8x256x256 : Shape := ⟨4, ![2, 8, 256, 256]⟩
abbrev S128x2048 : Shape := ⟨2, ![128, 2048]⟩
abbrev S2048x128 : Shape := ⟨2, ![2048, 128]⟩
abbrev S8x256x128 : Shape := ⟨3, ![8, 256, 128]⟩
abbrev S8x128 : Shape := ⟨2, ![8, 128]⟩
abbrev S8x256 : Shape := ⟨2, ![8, 256]⟩
abbrev S8x2048 : Shape := ⟨2, ![8, 2048]⟩
abbrev S128x256 : Shape := ⟨2, ![128, 256]⟩
abbrev S128x512 : Shape := ⟨2, ![128, 512]⟩
abbrev S1x256x128 : Shape := ⟨3, ![1, 256, 128]⟩
abbrev S256x128 : Shape := ⟨2, ![256, 128]⟩
abbrev S256x512 : Shape := ⟨2, ![256, 512]⟩
abbrev S1x1x256x256 : Shape := ⟨4, ![1, 1, 256, 256]⟩
abbrev S256x256 : Shape := ⟨2, ![256, 256]⟩
abbrev S512 : Shape := ⟨1, ![512]⟩
abbrev S1x512 : Shape := ⟨2, ![1, 512]⟩
abbrev S1x64x256 : Shape := ⟨3, ![1, 64, 256]⟩
abbrev S64x256 : Shape := ⟨2, ![64, 256]⟩
abbrev S1x256 : Shape := ⟨2, ![1, 256]⟩
abbrev S1x512x128 : Shape := ⟨3, ![1, 512, 128]⟩
abbrev S512x128 : Shape := ⟨2, ![512, 128]⟩
abbrev S512x512 : Shape := ⟨2, ![512, 512]⟩
abbrev S1x64x512 : Shape := ⟨3, ![1, 64, 512]⟩
abbrev S64x512 : Shape := ⟨2, ![64, 512]⟩
abbrev S512x256 : Shape := ⟨2, ![512, 256]⟩
abbrev S1x768x128 : Shape := ⟨3, ![1, 768, 128]⟩
abbrev S768x128 : Shape := ⟨2, ![768, 128]⟩
abbrev S768x512 : Shape := ⟨2, ![768, 512]⟩
abbrev S1x64x768 : Shape := ⟨3, ![1, 64, 768]⟩
abbrev S64x768 : Shape := ⟨2, ![64, 768]⟩
abbrev S768x256 : Shape := ⟨2, ![768, 256]⟩
abbrev S1x1024x128 : Shape := ⟨3, ![1, 1024, 128]⟩
abbrev S1024x128 : Shape := ⟨2, ![1024, 128]⟩
abbrev S1024x512 : Shape := ⟨2, ![1024, 512]⟩
abbrev S1x64x1024 : Shape := ⟨3, ![1, 64, 1024]⟩
abbrev S64x1024 : Shape := ⟨2, ![64, 1024]⟩
abbrev S1024x256 : Shape := ⟨2, ![1024, 256]⟩
abbrev S1x1280x128 : Shape := ⟨3, ![1, 1280, 128]⟩
abbrev S1280x128 : Shape := ⟨2, ![1280, 128]⟩
abbrev S1280x512 : Shape := ⟨2, ![1280, 512]⟩
abbrev S8x512 : Shape := ⟨2, ![8, 512]⟩
abbrev S1x64x1280 : Shape := ⟨3, ![1, 64, 1280]⟩
abbrev S64x1280 : Shape := ⟨2, ![64, 1280]⟩
abbrev S1280x256 : Shape := ⟨2, ![1280, 256]⟩
abbrev S1x1536x128 : Shape := ⟨3, ![1, 1536, 128]⟩
abbrev S1536x128 : Shape := ⟨2, ![1536, 128]⟩
abbrev S1536x512 : Shape := ⟨2, ![1536, 512]⟩
abbrev S1x64x1536 : Shape := ⟨3, ![1, 64, 1536]⟩
abbrev S64x1536 : Shape := ⟨2, ![64, 1536]⟩
abbrev S1536x256 : Shape := ⟨2, ![1536, 256]⟩
abbrev S1x1792x128 : Shape := ⟨3, ![1, 1792, 128]⟩
abbrev S1792x128 : Shape := ⟨2, ![1792, 128]⟩
abbrev S1792x512 : Shape := ⟨2, ![1792, 512]⟩
abbrev S1x64x1792 : Shape := ⟨3, ![1, 64, 1792]⟩
abbrev S64x1792 : Shape := ⟨2, ![64, 1792]⟩
abbrev S1792x256 : Shape := ⟨2, ![1792, 256]⟩
abbrev S2048x512 : Shape := ⟨2, ![2048, 512]⟩
abbrev S1x64x2048 : Shape := ⟨3, ![1, 64, 2048]⟩
abbrev S64x2048 : Shape := ⟨2, ![64, 2048]⟩
abbrev S2048x256 : Shape := ⟨2, ![2048, 256]⟩

abbrev nBuf : Space → Nat
  | .hbm => 5
  | .vmem => 10
  | .smem => 0
  | _ => 0

abbrev bufTy : (tb : Table) → Fin (tcTables nBuf tb) → BufTy
  | .hbm, ⟨0, _⟩ => ⟨S8x512x2048, .bf16⟩
  | .hbm, ⟨1, _⟩ => ⟨S8x2048x512, .bf16⟩
  | .hbm, ⟨2, _⟩ => ⟨S8x512x2048, .bf16⟩
  | .hbm, ⟨3, _⟩ => ⟨S8x8x256x256, .f32⟩
  | .hbm, ⟨4, _⟩ => ⟨S8x512x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x128x2048, .bf16⟩
  | .local _ .vmem, ⟨5, _⟩ => ⟨S1x128x2048, .bf16⟩
  | .local _ .vmem, ⟨6, _⟩ => ⟨S2x8x256x256, .f32⟩
  | .local _ .vmem, ⟨7, _⟩ => ⟨S2x8x256x256, .f32⟩
  | .local _ .vmem, ⟨8, _⟩ => ⟨S1x128x2048, .f32⟩
  | .local _ .vmem, ⟨9, _⟩ => ⟨S1x128x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x512x2048 : Shape := ⟨3, ![8, 512, 2048]⟩
abbrev S8x2048x512 : Shape := ⟨3, ![8, 2048, 512]⟩
abbrev S8x8x256x256 : Shape := ⟨4, ![8, 8, 256, 256]⟩
abbrev S8x8x64x8x256 : Shape := ⟨5, ![8, 8, 64, 8, 256]⟩
abbrev S8x8x8x256x64 : Shape := ⟨5, ![8, 8, 8, 256, 64]⟩
abbrev S8x8x256x8x64 : Shape := ⟨5, ![8, 8, 256, 8, 64]⟩
abbrev S_ : Shape := ⟨0, ![]⟩
abbrev S8x8x8x64 : Shape := ⟨4, ![8, 8, 8, 64]⟩
abbrev S8 : Shape := ⟨1, ![8]⟩
abbrev S8x8x8x256x8 : Shape := ⟨5, ![8, 8, 8, 256, 8]⟩
abbrev S1x8 : Shape := ⟨2, ![1, 8]⟩
abbrev S8x1 : Shape := ⟨2, ![8, 1]⟩
abbrev S8x8 : Shape := ⟨2, ![8, 8]⟩
abbrev S1x1x8x1x8 : Shape := ⟨5, ![1, 1, 8, 1, 8]⟩
abbrev S8x8x8x256x3 : Shape := ⟨5, ![8, 8, 8, 256, 3]⟩
abbrev S3 : Shape := ⟨1, ![3]⟩
abbrev S1x3 : Shape := ⟨2, ![1, 3]⟩
abbrev S8x3 : Shape := ⟨2, ![8, 3]⟩
abbrev S8x1x1x1x1 : Shape := ⟨5, ![8, 1, 1, 1, 1]⟩
abbrev S1x8x1x1x1 : Shape := ⟨5, ![1, 8, 1, 1, 1]⟩
abbrev S8x8x8x256x3x1 : Shape := ⟨6, ![8, 8, 8, 256, 3, 1]⟩
abbrev S8x8x8x256x3x3 : Shape := ⟨6, ![8, 8, 8, 256, 3, 3]⟩
abbrev S8x8x8x256x3x256x64 : Shape := ⟨7, ![8, 8, 8, 256, 3, 256, 64]⟩
abbrev S1x1x8x1x1 : Shape := ⟨5, ![1, 1, 8, 1, 1]⟩
abbrev S256 : Shape := ⟨1, ![256]⟩
abbrev S1x1x1x256x1 : Shape := ⟨5, ![1, 1, 1, 256, 1]⟩
abbrev S8x8x8x256x3x256 : Shape := ⟨6, ![8, 8, 8, 256, 3, 256]⟩
abbrev S1x1x8x1x3x1 : Shape := ⟨6, ![1, 1, 8, 1, 3, 1]⟩
abbrev S8x8x8x256x256 : Shape := ⟨5, ![8, 8, 8, 256, 256]⟩
abbrev S8x1x256x256 : Shape := ⟨4, ![8, 1, 256, 256]⟩
abbrev S8x256x256 : Shape := ⟨3, ![8, 256, 256]⟩
abbrev S1x8x1x256x256 : Shape := ⟨5, ![1, 8, 1, 256, 256]⟩
abbrev S8x8x8x256x768 : Shape := ⟨5, ![8, 8, 8, 256, 768]⟩
abbrev S8x8x8x256x1024 : Shape := ⟨5, ![8, 8, 8, 256, 1024]⟩
abbrev S8x8x8x256 : Shape := ⟨4, ![8, 8, 8, 256]⟩
abbrev S8x8x8x256x1 : Shape := ⟨5, ![8, 8, 8, 256, 1]⟩

abbrev nBuf : Space → Nat
  | .hbm => 109
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S8x2048x512, .bf16⟩
  | .hbm, ⟨2, _⟩ => ⟨S8x512x2048, .bf16⟩
  | .hbm, ⟨3, _⟩ => ⟨S8x8x256x256, .f32⟩
  | .hbm, ⟨4, _⟩ => ⟨S8x512x2048, .f32⟩
  | .hbm, ⟨5, _⟩ => ⟨S8x8x64x8x256, .f32⟩
  | .hbm, ⟨6, _⟩ => ⟨S8x8x8x256x64, .f32⟩
  | .hbm, ⟨7, _⟩ => ⟨S8x2048x512, .f32⟩
  | .hbm, ⟨8, _⟩ => ⟨S8x8x256x8x64, .f32⟩
  | .hbm, ⟨9, _⟩ => ⟨S8x8x8x256x64, .f32⟩
  | .hbm, ⟨10, _⟩ => ⟨S8x512x2048, .f32⟩
  | .hbm, ⟨11, _⟩ => ⟨S8x8x64x8x256, .f32⟩
  | .hbm, ⟨12, _⟩ => ⟨S8x8x8x256x64, .f32⟩
  | .hbm, ⟨13, _⟩ => ⟨S8x8x256x256, .f32⟩
  | .hbm, ⟨14, _⟩ => ⟨S_, .f32⟩
  | .hbm, ⟨15, _⟩ => ⟨S8x8x8x64, .f32⟩
  | .hbm, ⟨16, _⟩ => ⟨S_, .f32⟩
  | .hbm, ⟨17, _⟩ => ⟨S8x8x8x64, .f32⟩
  | .hbm, ⟨18, _⟩ => ⟨S8x8x8x64, .f32⟩
  | .hbm, ⟨19, _⟩ => ⟨S8, .i32⟩
  | .hbm, ⟨20, _⟩ => ⟨S8x8x8x256x8, .f32⟩
  | .hbm, ⟨21, _⟩ => ⟨S8, .i32⟩
  | .hbm, ⟨22, _⟩ => ⟨S1x8, .i32⟩
  | .hbm, ⟨23, _⟩ => ⟨S8x1, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S1x1x8x1x8, .i1⟩
  | .hbm, ⟨28, _⟩ => ⟨S_, .f32⟩
  | .hbm, ⟨29, _⟩ => ⟨S_, .f32⟩
  | .hbm, ⟨30, _⟩ => ⟨S8x8x8x256x8, .i1⟩
  | .hbm, ⟨31, _⟩ => ⟨S8x8x8x256x8, .f32⟩
  | .hbm, ⟨32, _⟩ => ⟨S8x8x8x256x8, .f32⟩
  | .hbm, ⟨33, _⟩ => ⟨S8x8x8x256x3, .f32⟩
  | .hbm, ⟨34, _⟩ => ⟨S8x8x8x256x3, .i32⟩
  | .hbm, ⟨35, _⟩ => ⟨S3, .i32⟩
  | .hbm, ⟨36, _⟩ => ⟨S1x3, .i32⟩
  | .hbm, ⟨37, _⟩ => ⟨S8x1, .i32⟩
  | .hbm, ⟨38, _⟩ => ⟨S8x3, .i32⟩
  | .hbm, ⟨39, _⟩ => ⟨S8x3, .i32⟩
  | .hbm, ⟨40, _⟩ => ⟨S8x3, .i1⟩
  | .hbm, ⟨41, _⟩ => ⟨S8, .i32⟩
  | .hbm, ⟨42, _⟩ => ⟨S8x1x1x1x1, .i32⟩
  | .hbm, ⟨43, _⟩ => ⟨S8, .i32⟩
  | .hbm, ⟨44, _⟩ => ⟨S1x8x1x1x1, .i32⟩
  | .hbm, ⟨45, _⟩ => ⟨S8x8x8x256x3, .i32⟩
  | .hbm, ⟨46, _⟩ => ⟨S8x8x8x256x3, .i32⟩
  | .hbm, ⟨47, _⟩ => ⟨S8x8x8x256x3x1, .i32⟩
  | .hbm, ⟨48, _⟩ => ⟨S8x8x8x256x3x1, .i32⟩
  | .hbm, ⟨49, _⟩ => ⟨S8x8x8x256x3x1, .i32⟩
  | .hbm, ⟨50, _⟩ => ⟨S8x8x8x256x3x3, .i32⟩
  | .hbm, ⟨51, _⟩ => ⟨S8x8x8x256x3x256x64, .f32⟩
  | .hbm, ⟨52, _⟩ => ⟨S8x8x8x256x3, .i32⟩
  | .hbm, ⟨53, _⟩ => ⟨S8x8x8x256x3, .i32⟩
  | .hbm, ⟨54, _⟩ => ⟨S8x8x8x256x3x1, .i32⟩
  | .hbm, ⟨55, _⟩ => ⟨S8x8x8x256x3x1, .i32⟩
  | .hbm, ⟨56, _⟩ => ⟨S8x8x8x256x3x1, .i32⟩
  | .hbm, ⟨57, _⟩ => ⟨S8x8x8x256x3x3, .i32⟩
  | .hbm, ⟨58, _⟩ => ⟨S8x8x8x256x3x256x64, .f32⟩
  | .hbm, ⟨59, _⟩ => ⟨S1x1x8x1x1, .i32⟩
  | .hbm, ⟨60, _⟩ => ⟨S8x8x8x256x3, .i32⟩
  | .hbm, ⟨61, _⟩ => ⟨S8x8x8x256x3, .i32⟩
  | .hbm, ⟨62, _⟩ => ⟨S256, .i32⟩
  | .hbm, ⟨63, _⟩ => ⟨S1x1x1x256x1, .i32⟩
  | .hbm, ⟨64, _⟩ => ⟨S8x8x8x256x3x256, .f32⟩
  | .hbm, ⟨65, _⟩ => ⟨S8x8x8x256x3, .i32⟩
  | .hbm, ⟨66, _⟩ => ⟨S8x8x8x256x3, .i32⟩
  | .hbm, ⟨67, _⟩ => ⟨S8x8x8x256x3x1, .i32⟩
  | .hbm, ⟨68, _⟩ => ⟨S8x8x8x256x3x1, .i32⟩
  | .hbm, ⟨69, _⟩ => ⟨S8x8x8x256x3x1, .i32⟩
  | .hbm, ⟨70, _⟩ => ⟨S8x8x8x256x3x3, .i32⟩
  | .hbm, ⟨71, _⟩ => ⟨S8x8x8x256x3x256, .f32⟩
  | .hbm, ⟨72, _⟩ => ⟨S8x8x8x256x3x256, .f32⟩
  | .hbm, ⟨73, _⟩ => ⟨S1x1x8x1x3x1, .i1⟩
  | .hbm, ⟨74, _⟩ => ⟨S_, .f32⟩
  | .hbm, ⟨75, _⟩ => ⟨S_, .f32⟩
  | .hbm, ⟨76, _⟩ => ⟨S8x8x8x256x3x256, .i1⟩
  | .hbm, ⟨77, _⟩ => ⟨S8x8x8x256x3x256, .f32⟩
  | .hbm, ⟨78, _⟩ => ⟨S8x8x8x256x3x256, .f32⟩
  | .hbm, ⟨79, _⟩ => ⟨S8x8x8x256x256, .f32⟩
  | .hbm, ⟨80, _⟩ => ⟨S8x1x256x256, .f32⟩
  | .hbm, ⟨81, _⟩ => ⟨S8x256x256, .f32⟩
  | .hbm, ⟨82, _⟩ => ⟨S1x8x1x256x256, .f32⟩
  | .hbm, ⟨83, _⟩ => ⟨S8x8x8x256x256, .f32⟩
  | .hbm, ⟨84, _⟩ => ⟨S8x8x8x256x256, .f32⟩
  | .hbm, ⟨85, _⟩ => ⟨S8x8x8x256x768, .f32⟩
  | .hbm, ⟨86, _⟩ => ⟨S8x8x8x256x1024, .f32⟩
  | .hbm, ⟨87, _⟩ => ⟨S_, .f32⟩
  | .hbm, ⟨88, _⟩ => ⟨S8x8x8x256, .f32⟩
  | .hbm, ⟨89, _⟩ => ⟨S_, .f32⟩
  | .hbm, ⟨90, _⟩ => ⟨S8x8x8x256, .f32⟩
  | .hbm, ⟨91, _⟩ => ⟨S8x8x8x256, .f32⟩
  | .hbm, ⟨92, _⟩ => ⟨S8x8x8x256x1, .f32⟩
  | .hbm, ⟨93, _⟩ => ⟨S8x8x8x256x1024, .f32⟩
  | .hbm, ⟨94, _⟩ => ⟨S8x8x8x256x1024, .f32⟩
  | .hbm, ⟨95, _⟩ => ⟨S8x8x8x256x1024, .f32⟩
  | .hbm, ⟨96, _⟩ => ⟨S_, .f32⟩
  | .hbm, ⟨97, _⟩ => ⟨S8x8x8x256, .f32⟩
  | .hbm, ⟨98, _⟩ => ⟨S8x8x8x256x1, .f32⟩
  | .hbm, ⟨99, _⟩ => ⟨S8x8x8x256x1024, .f32⟩
  | .hbm, ⟨100, _⟩ => ⟨S8x8x8x256x1024, .f32⟩
  | .hbm, ⟨101, _⟩ => ⟨S8x8x8x256x768, .f32⟩
  | .hbm, ⟨102, _⟩ => ⟨S8x8x8x256x3x256, .f32⟩
  | .hbm, ⟨103, _⟩ => ⟨S8x8x8x256x64, .f32⟩
  | .hbm, ⟨104, _⟩ => ⟨S8x8x8x256x256, .f32⟩
  | .hbm, ⟨105, _⟩ => ⟨S8x8x8x256x64, .f32⟩
  | .hbm, ⟨106, _⟩ => ⟨S8x8x8x256x64, .f32⟩
  | .hbm, ⟨107, _⟩ => ⟨S8x8x64x8x256, .f32⟩
  | .hbm, ⟨108, _⟩ => ⟨S8x512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_values : Ref sig .tc := ⟨.hbm, 33, rfl⟩
abbrev main_indices : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_2 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_3 : Ref sig .tc := ⟨.hbm, 87, rfl⟩
abbrev main_v71 : Ref sig .tc := ⟨.hbm, 88, rfl⟩
abbrev main_cst_4 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_5 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩

abbrev nD : Nat := 1
abbrev τ : Topo := Topo.v7x

variable {F : FTy → Type} [FloatOps F]

def κ : String → Option EReal := fun
  | "mask" => some ⊥
  | _ => none
-- ==== Kernel2.lean ====
abbrev S8x2048x1024 : Shape := ⟨3, ![8, 2048, 1024]⟩
abbrev S8x6x1x1024 : Shape := ⟨4, ![8, 6, 1, 1024]⟩
abbrev S1024x1024 : Shape := ⟨2, ![1024, 1024]⟩
abbrev S1024x2048 : Shape := ⟨2, ![1024, 2048]⟩
abbrev S8x512x2048 : Shape := ⟨3, ![8, 512, 2048]⟩
abbrev S8x2048x512 : Shape := ⟨3, ![8, 2048, 512]⟩
abbrev S8x2048x1536 : Shape := ⟨3, ![8, 2048, 1536]⟩
abbrev S1x512x1024 : Shape := ⟨3, ![1, 512, 1024]⟩
abbrev S1x1x1x1024 : Shape := ⟨4, ![1, 1, 1, 1024]⟩
abbrev S1x512x512 : Shape := ⟨3, ![1, 512, 512]⟩
abbrev S1x512x1536 : Shape := ⟨3, ![1, 512, 1536]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S512x2048 : Shape := ⟨2, ![512, 2048]⟩
abbrev S512x1536 : Shape := ⟨2, ![512, 1536]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x6x1x1024, .f32⟩
  | .hbm, ⟨2, _⟩ => ⟨S1024x1024, .bf16⟩
  | .hbm, ⟨3, _⟩ => ⟨S1024x2048, .bf16⟩
  | .hbm, ⟨4, _⟩ => ⟨S8x512x2048, .bf16⟩
  | .hbm, ⟨5, _⟩ => ⟨S8x512x2048, .bf16⟩
  | .hbm, ⟨6, _⟩ => ⟨S8x2048x512, .bf16⟩
  | .hbm, ⟨7, _⟩ => ⟨S8x2048x1536, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1024x1024, .bf16⟩
  | .local _ .vmem, ⟨7, _⟩ => ⟨S1024x2048, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x1536, .f32⟩
  | .local _ .vmem, ⟨15, _⟩ => ⟨S1x512x1536, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x2048x1024 : Shape := ⟨3, ![8, 2048, 1024]⟩
abbrev S8x6x1x1024 : Shape := ⟨4, ![8, 6, 1, 1024]⟩
abbrev S1024x1024 : Shape := ⟨2, ![1024, 1024]⟩
abbrev S1024x2048 : Shape := ⟨2, ![1024, 2048]⟩
abbrev S8x1x1x1024 : Shape := ⟨4, ![8, 1, 1, 1024]⟩
abbrev S8x1x1024 : Shape := ⟨3, ![8, 1, 1024]⟩
abbrev S_ : Shape := ⟨0, ![]⟩
abbrev S1024x8x2048 : Shape := ⟨3, ![1024, 8, 2048]⟩
abbrev S8x1024x2048 : Shape := ⟨3, ![8, 1024, 2048]⟩
abbrev S8x2048x2048 : Shape := ⟨3, ![8, 2048, 2048]⟩
abbrev S8x512x2048 : Shape := ⟨3, ![8, 512, 2048]⟩
abbrev S8x2048x512 : Shape := ⟨3, ![8, 2048, 512]⟩
abbrev S8x2048x1536 : Shape := ⟨3, ![8, 2048, 1536]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6x1x1024, .f32⟩
  | .hbm, ⟨2, _⟩ => ⟨S1024x1024, .bf16⟩
  | .hbm, ⟨3, _⟩ => ⟨S1024x2048, .bf16⟩
  | .hbm, ⟨4, _⟩ => ⟨S8x1x1x1024, .f32⟩
  | .hbm, ⟨5, _⟩ => ⟨S8x1x1024, .f32⟩
  | .hbm, ⟨6, _⟩ => ⟨S_, .f32⟩
  | .hbm, ⟨7, _⟩ => ⟨S8x1x1024, .f32⟩
  | .hbm, ⟨8, _⟩ => ⟨S8x1x1024, .f32⟩
  | .hbm, ⟨9, _⟩ => ⟨S8x2048x1024, .f32⟩
  | .hbm, ⟨10, _⟩ => ⟨S8x2048x1024, .f32⟩
  | .hbm, ⟨11, _⟩ => ⟨S8x1x1x1024, .f32⟩
  | .hbm, ⟨12, _⟩ => ⟨S8x1x1024, .f32⟩
  | .hbm, ⟨13, _⟩ => ⟨S8x2048x1024, .f32⟩
  | .hbm, ⟨14, _⟩ => ⟨S8x2048x1024, .f32⟩
  | .hbm, ⟨15, _⟩ => ⟨S8x2048x1024, .bf16⟩
  | .hbm, ⟨16, _⟩ => ⟨S1024x8x2048, .f32⟩
  | .hbm, ⟨17, _⟩ => ⟨S8x1024x2048, .f32⟩
  | .hbm, ⟨18, _⟩ => ⟨S8x2048x2048, .f32⟩
  | .hbm, ⟨19, _⟩ => ⟨S8x512x2048, .f32⟩
  | .hbm, ⟨20, _⟩ => ⟨S8x512x2048, .bf16⟩
  | .hbm, ⟨21, _⟩ => ⟨S8x512x2048, .f32⟩
  | .hbm, ⟨22, _⟩ => ⟨S8x512x2048, .bf16⟩
  | .hbm, ⟨23, _⟩ => ⟨S8x2048x512, .f32⟩
  | .hbm, ⟨24, _⟩ => ⟨S8x2048x512, .bf16⟩
  | .hbm, ⟨25, _⟩ => ⟨S8x2048x1536, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel3.lean ====
abbrev S8x512x2048 : Shape := ⟨3, ![8, 512, 2048]⟩
abbrev S8x2048x512 : Shape := ⟨3, ![8, 2048, 512]⟩
abbrev S8x2048x1024 : Shape := ⟨3, ![8, 2048, 1024]⟩
abbrev S8x6x1x1024 : Shape := ⟨4, ![8, 6, 1, 1024]⟩
abbrev S512 : Shape := ⟨1, ![512]⟩
abbrev S512x1024 : Shape := ⟨2, ![512, 1024]⟩
abbrev S1024 : Shape := ⟨1, ![1024]⟩
abbrev S1x512 : Shape := ⟨2, ![1, 512]⟩
abbrev S1x1024 : Shape := ⟨2, ![1, 1024]⟩
abbrev S1x512x512 : Shape := ⟨3, ![1, 512, 512]⟩
abbrev S1x512x1024 : Shape := ⟨3, ![1, 512, 1024]⟩
abbrev S1x1x1x1024 : Shape := ⟨4, ![1, 1, 1, 1024]⟩
abbrev S512x512 : Shape := ⟨2, ![512, 512]⟩
abbrev S512x1 : Shape := ⟨2, ![512, 1]⟩

abbrev nBuf : Space → Nat
  | .hbm => 16
  | .vmem => 22
  | .smem => 0
  | _ => 0

abbrev bufTy : (tb : Table) → Fin (tcTables nBuf tb) → BufTy
  | .hbm, ⟨0, _⟩ => ⟨S8x512x2048, .f32⟩
  | .hbm, ⟨1, _⟩ => ⟨S8x2048x512, .f32⟩
  | .hbm, ⟨2, _⟩ => ⟨S8x2048x1024, .f32⟩
  | .hbm, ⟨3, _⟩ => ⟨S8x6x1x1024, .f32⟩
  | .hbm, ⟨4, _⟩ => ⟨S512, .f32⟩
  | .hbm, ⟨5, _⟩ => ⟨S512, .f32⟩
  | .hbm, ⟨6, _⟩ => ⟨S512x1024, .bf16⟩
  | .hbm, ⟨7, _⟩ => ⟨S512x1024, .bf16⟩
  | .hbm, ⟨8, _⟩ => ⟨S1024, .f32⟩
  | .hbm, ⟨9, _⟩ => ⟨S1024, .f32⟩
  | .hbm, ⟨10, _⟩ => ⟨S1x512, .f32⟩
  | .hbm, ⟨11, _⟩ => ⟨S1x512, .f32⟩
  | .hbm, ⟨12, _⟩ => ⟨S1x1024, .f32⟩
  | .hbm, ⟨13, _⟩ => ⟨S1x1024, .f32⟩
  | .hbm, ⟨14, _⟩ => ⟨S8x2048x1024, .f32⟩
  | .hbm, ⟨15, _⟩ => ⟨S8x2048x1024, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x512, .f32⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .bf16⟩
  | .local _ .vmem, ⟨21, _⟩ => ⟨S1x512x1024, .bf16⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8x512x2048 : Shape := ⟨3, ![8, 512, 2048]⟩
abbrev S8x2048x512 : Shape := ⟨3, ![8, 2048, 512]⟩
abbrev S8x2048x1024 : Shape := ⟨3, ![8, 2048, 1024]⟩
abbrev S8x6x1x1024 : Shape := ⟨4, ![8, 6, 1, 1024]⟩
abbrev S512 : Shape := ⟨1, ![512]⟩
abbrev S512x1024 : Shape := ⟨2, ![512, 1024]⟩
abbrev S1024 : Shape := ⟨1, ![1024]⟩
abbrev S8x1x1x1024 : Shape := ⟨4, ![8, 1, 1, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S1024x1024 : Shape := ⟨2, ![1024, 1024]⟩
abbrev S1x1x1024 : Shape := ⟨3, ![1, 1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8x512x2048, .f32⟩
  | .hbm, ⟨1, _⟩ => ⟨S8x2048x512, .f32⟩
  | .hbm, ⟨2, _⟩ => ⟨S8x2048x1024, .f32⟩
  | .hbm, ⟨3, _⟩ => ⟨S8x6x1x1024, .f32⟩
  | .hbm, ⟨4, _⟩ => ⟨S512, .f32⟩
  | .hbm, ⟨5, _⟩ => ⟨S512, .f32⟩
  | .hbm, ⟨6, _⟩ => ⟨S512x1024, .bf16⟩
  | .hbm, ⟨7, _⟩ => ⟨S512x1024, .bf16⟩
  | .hbm, ⟨8, _⟩ => ⟨S1024, .f32⟩
  | .hbm, ⟨9, _⟩ => ⟨S1024, .f32⟩
  | .hbm, ⟨10, _⟩ => ⟨S8x1x1x1024, .f32⟩
  | .hbm, ⟨11, _⟩ => ⟨S8x1x1024, .f32⟩
  | .hbm, ⟨12, _⟩ => ⟨S8x1x1x1024, .f32⟩
  | .hbm, ⟨13, _⟩ => ⟨S8x1x1024, .f32⟩
  | .hbm, ⟨14, _⟩ => ⟨S8x1x1x1024, .f32⟩
  | .hbm, ⟨15, _⟩ => ⟨S8x1x1024, .f32⟩
  | .hbm, ⟨16, _⟩ => ⟨S8x2048x512, .f32⟩
  | .hbm, ⟨17, _⟩ => ⟨S8x2048x512, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x512, .f32⟩
  | .hbm, ⟨29, _⟩ => ⟨S8x2048x512, .f32⟩
  | .hbm, ⟨30, _⟩ => ⟨S1x1x512, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x512, .f32⟩
  | .hbm, ⟨45, _⟩ => ⟨S8x2048x512, .f32⟩
  | .hbm, ⟨46, _⟩ => ⟨S1x1x512, .f32⟩
  | .hbm, ⟨47, _⟩ => ⟨S8x2048x512, .f32⟩
  | .hbm, ⟨48, _⟩ => ⟨S8x2048x512, .f32⟩
  | .hbm, ⟨49, _⟩ => ⟨S8x2048x1024, .f32⟩
  | .hbm, ⟨50, _⟩ => ⟨S8x2048x1024, .bf16⟩
  | .hbm, ⟨51, _⟩ => ⟨S1024x1024, .bf16⟩
  | .hbm, ⟨52, _⟩ => ⟨S8x2048x1024, .f32⟩
  | .hbm, ⟨53, _⟩ => ⟨S_, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x1x1024, .f32⟩
  | .hbm, ⟨58, _⟩ => ⟨S8x1x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1024, .f32⟩
  | .hbm, ⟨78, _⟩ => ⟨S8x2048x1024, .f32⟩
  | .hbm, ⟨79, _⟩ => ⟨S_, .f32⟩
  | .hbm, ⟨80, _⟩ => ⟨S8x2048x1, .f32⟩
  | .hbm, ⟨81, _⟩ => ⟨S8x2048x1, .f32⟩
  | .hbm, ⟨82, _⟩ => ⟨S8x2048x1, .f32⟩
  | .hbm, ⟨83, _⟩ => ⟨S8x2048x1024, .f32⟩
  | .hbm, ⟨84, _⟩ => ⟨S8x2048x1024, .f32⟩
  | .hbm, ⟨85, _⟩ => ⟨S1x1x1024, .f32⟩
  | .hbm, ⟨86, _⟩ => ⟨S8x2048x1024, .f32⟩
  | .hbm, ⟨87, _⟩ => ⟨S8x2048x1024, .f32⟩
  | .hbm, ⟨88, _⟩ => ⟨S1x1x1024, .f32⟩
  | .hbm, ⟨89, _⟩ => ⟨S8x2048x1024, .f32⟩
  | .hbm, ⟨90, _⟩ => ⟨S8x2048x1024, .f32⟩
  | .hbm, ⟨91, _⟩ => ⟨S_, .f32⟩
  | .hbm, ⟨92, _⟩ => ⟨S8x1x1024, .f32⟩
  | .hbm, ⟨93, _⟩ => ⟨S8x1x1024, .f32⟩
  | .hbm, ⟨94, _⟩ => ⟨S8x2048x1024, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S8x2048x1024, .bf16⟩
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Kernel4.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S16x32 : Shape := ⟨2, ![16, 32]⟩
abbrev S8x8x256x256 : Shape := ⟨4, ![8, 8, 256, 256]⟩
abbrev S8x3x128x256 : Shape := ⟨4, ![8, 3, 128, 256]⟩
abbrev S1x8x256x256 : Shape := ⟨4, ![1, 8, 256, 256]⟩
abbrev S1x3x128x256 : Shape := ⟨4, ![1, 3, 128, 256]⟩
abbrev S256x256 : Shape := ⟨2, ![256, 256]⟩
abbrev S1x1 : Shape := ⟨2, ![1, 1]⟩
abbrev S1x1x256x256 : Shape := ⟨4, ![1, 1, 256, 256]⟩
abbrev S128x256 : Shape := ⟨2, ![128, 256]⟩
abbrev S1x1x128x256 : Shape := ⟨4, ![1, 1, 128, 256]⟩

abbrev nBuf : Space → Nat
  | .hbm => 3
  | .vmem => 4
  | .smem => 1
  | _ => 0

abbrev bufTy : (tb : Table) → Fin (tcTables nBuf tb) → BufTy
  | .hbm, ⟨0, _⟩ => ⟨S16x32, .f32⟩
  | .hbm, ⟨1, _⟩ => ⟨S8x8x256x256, .f32⟩
  | .hbm, ⟨2, _⟩ => ⟨S8x3x128x256, .f32⟩
  | .local _ .vmem, ⟨0, _⟩ => ⟨S1x8x256x256, .f32⟩
  | .local _ .vmem, ⟨1, _⟩ => ⟨S1x8x256x256, .f32⟩
  | .local _ .vmem, ⟨2, _⟩ => ⟨S1x3x128x256, .f32⟩
  | .local _ .vmem, ⟨3, _⟩ => ⟨S1x3x128x256, .f32⟩
  | .local _ .smem, ⟨0, _⟩ => ⟨S16x32, .f32⟩
  | _, _ => ⟨S16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v5 : Index := Scalar.indexCast arg0
  let c25 : Index := 25#32
  ![v5.toNat, 25]
def k0_off2 (i : grid0.Coords) : Fin 2 → Nat :=
  let arg0 : BitVec 32 := BitVec.ofNat 32 (i 0).val
  let v10 : Index := Scalar.indexCast arg0
  let c24 : Index := 24#32
  ![v10.toNat, 24]
def k0_off3 (i : grid0.Coords) : Fin 2 → Nat :=
  let arg0 : BitVec 32 := BitVec.ofNat 32 (i 0).val
  let v16 : Index := Scalar.indexCast arg0
  let c23 : Index := 23#32
  ![v16.toNat, 23]
def k0_off4 (i : grid0.Coords) : Fin 2 → Nat :=
  let arg0 : BitVec 32 := BitVec.ofNat 32 (i 0).val
  let v22 : Index := Scalar.indexCast arg0
  let c22 : Index := 22#32
  ![v22.toNat, 22]
def k0_off5 (i : grid0.Coords) : Fin 2 → Nat :=
  let arg0 : BitVec 32 := BitVec.ofNat 32 (i 0).val
  let v28 : Index := Scalar.indexCast arg0
  let c21 : Index := 21#32
  ![v28.toNat, 21]
def k0_off6 (i : grid0.Coords) : Fin 2 → Nat :=
  let arg0 : BitVec 32 := BitVec.ofNat 32 (i 0).val
  let v34 : Index := Scalar.indexCast arg0
  let c20 : Index := 20#32
  ![v34.toNat, 20]
def k0_off7 (i : grid0.Coords) : Fin 2 → Nat :=
  let arg0 : BitVec 32 := BitVec.ofNat 32 (i 0).val
  let v40 : Index := Scalar.indexCast arg0
  let c19 : Index := 19#32
  ![v40.toNat, 19]
def k0_off8 (i : grid0.Coords) : Fin 2 → Nat :=
  let arg0 : BitVec 32 := BitVec.ofNat 32 (i 0).val
  let v46 : Index := Scalar.indexCast arg0
  let c18 : Index := 18#32
  ![v46.toNat, 18]
def k0_off9 (i : grid0.Coords) : Fin 2 → Nat :=
  let arg0 : BitVec 32 := BitVec.ofNat 32 (i 0).val
  let v52 : Index := Scalar.indexCast arg0
  let c17 : Index := 17#32
  ![v52.toNat, 17]
def k0_off10 (i : grid0.Coords) : Fin 2 → Nat :=
  let arg0 : BitVec 32 := BitVec.ofNat 32 (i 0).val
  let v58 : Index := Scalar.indexCast arg0
  let c16 : Index := 16#32
  ![v58.toNat, 16]
def k0_off11 (i : grid0.Coords) : Fin 2 → Nat :=
  let arg0 : BitVec 32 := BitVec.ofNat 32 (i 0).val
  let v64 : Index := Scalar.indexCast arg0
  let c15 : Index := 15#32
  ![v64.toNat, 15]
def k0_off12 (i : grid0.Coords) : Fin 2 → Nat :=
  let arg0 : BitVec 32 := BitVec.ofNat 32 (i 0).val
  let v70 : Index := Scalar.indexCast arg0
  let c14 : Index := 14#32
  ![v70.toNat, 14]
def k0_off13 (i : grid0.Coords) : Fin 2 → Nat :=
  let arg0 : BitVec 32 := BitVec.ofNat 32 (i 0).val
  let v76 : Index := Scalar.indexCast arg0
  let c13 : Index := 13#32
  ![v76.toNat, 13]
def k0_off14 (i : grid0.Coords) : Fin 2 → Nat :=
  let arg0 : BitVec 32 := BitVec.ofNat 32 (i 0).val
  let v82 : Index := Scalar.indexCast arg0
  let c12 : Index := 12#32
  ![v82.toNat, 12]
def k0_off15 (i : grid0.Coords) : Fin 2 → Nat :=
  let arg0 : BitVec 32 := BitVec.ofNat 32 (i 0).val
  let v88 : Index := Scalar.indexCast arg0
  let c11 : Index := 11#32
  ![v88.toNat, 11]
def k0_off16 (i : grid0.Coords) : Fin 2 → Nat :=
  let arg0 : BitVec 32 := BitVec.ofNat 32 (i 0).val
  let v94 : Index := Scalar.indexCast arg0
  let c10 : Index := 10#32
  ![v94.toNat, 10]
def k0_off17 (i : grid0.Coords) : Fin 2 → Nat :=
  let arg0 : BitVec 32 := BitVec.ofNat 32 (i 0).val
  let v100 : Index := Scalar.indexCast arg0
  let c9 : Index := 9#32
  ![v100.toNat, 9]
def k0_off18 (i : grid0.Coords) : Fin 2 → Nat :=
  let arg0 : BitVec 32 := BitVec.ofNat 32 (i 0).val
  let v106 : Index := Scalar.indexCast arg0
  let c8 : Index := 8#32
  ![v106.toNat, 8]
def k0_off19 (i : grid0.Coords) : Fin 2 → Nat :=
  let arg0 : BitVec 32 := BitVec.ofNat 32 (i 0).val
  let v112 : Index := Scalar.indexCast arg0
  let c7 : Index := 7#32
  ![v112.toNat, 7]
def k0_off20 (i : grid0.Coords) : Fin 2 → Nat :=
  let arg0 : BitVec 32 := BitVec.ofNat 32 (i 0).val
  let v118 : Index := Scalar.indexCast arg0
  let c6 : Index := 6#32
  ![v118.toNat, 6]
def k0_off21 (i : grid0.Coords) : Fin 2 → Nat :=
  let arg0 : BitVec 32 := BitVec.ofNat 32 (i 0).val
  let v124 : Index := Scalar.indexCast arg0
  let c5 : Index := 5#32
  ![v124.toNat, 5]
def k0_off22 (i : grid0.Coords) : Fin 2 → Nat :=
  let arg0 : BitVec 32 := BitVec.ofNat 32 (i 0).val
  let v130 : Index := Scalar.indexCast arg0
  let c4 : Index := 4#32
  ![v130.toNat, 4]
def k0_off23 (i : grid0.Coords) : Fin 2 → Nat :=
  let arg0 : BitVec 32 := BitVec.ofNat 32 (i 0).val
  let v136 : Index := Scalar.indexCast arg0
  let c3 : Index := 3#32
  ![v136.toNat, 3]
def k0_off24 (i : grid0.Coords) : Fin 2 → Nat :=
  let arg0 : BitVec 32 := BitVec.ofNat 32 (i 0).val
  let v142 : Index := Scalar.indexCast arg0
  let c2 : Index := 2#32
  ![v142.toNat, 2]
def k0_off25 (i : grid0.Coords) : Fin 2 → Nat :=
  let arg0 : BitVec 32 := BitVec.ofNat 32 (i 0).val
  let v148 : Index := Scalar.indexCast arg0
  let c1 : Index := 1#32
  ![v148.toNat, 1]
def k0_off26 (i : grid0.Coords) : Fin 2 → Nat :=
  let arg0 : BitVec 32 := BitVec.ofNat 32 (i 0).val
  let v154 : Index := Scalar.indexCast arg0
  let c0 : Index := 0#32
  ![v154.toNat, 0]
def k0_off27 (i : grid0.Coords) : Fin 2 → Nat :=
  let arg0 : BitVec 32 := BitVec.ofNat 32 (i 0).val
  let v168 : Index := Scalar.indexCast arg0
  let c27 : Index := 27#32
  ![v168.toNat, 27]
def k0_off28 (i : grid0.Coords) : Fin 2 → Nat :=
  let arg0 : BitVec 32 := BitVec.ofNat 32 (i 0).val
  let v173 : Index := Scalar.indexCast arg0
  let c26 : Index := 26#32
  ![v173.toNat, 26]
def k0_off29 (i : grid0.Coords) : Fin 2 → Nat :=
  let arg0 : BitVec 32 := BitVec.ofNat 32 (i 0).val
  let v333 : Index := Scalar.indexCast arg0
  let c28 : Index := 28#32
  ![v333.toNat, 28]
def k0_off30 (i : grid0.Coords) : Fin 2 → Nat :=
  let arg0 : BitVec 32 := BitVec.ofNat 32 (i 0).val
  let v360 : Index := Scalar.indexCast arg0
  let c29 : Index := 29#32
  ![v360.toNat, 29]
def k0_off31 (i : grid0.Coords) : Fin 2 → Nat :=
  let arg0 : BitVec 32 := BitVec.ofNat 32 (i 0).val
  let v381 : Index := Scalar.indexCast arg0
  let c30 : Index := 30#32
  ![v381.toNat, 30]
def k0_off32 (i : grid0.Coords) : Fin 2 → Nat :=
  let arg0 : BitVec 32 := BitVec.ofNat 32 (i 0).val
  let v402 : Index := Scalar.indexCast arg0
  let c31 : Index := 31#32
  ![v402.toNat, 31]
def k0_off33 (i : grid0.Coords) : Fin 2 → Nat :=
  let c8_i32_103 : BitVec 32 := 8#32
  let arg0 : BitVec 32 := BitVec.ofNat 32 (i 0).val
  let v453 : BitVec 32 := Scalar.addi c8_i32_103 arg0
  let v454 : Index := Scalar.indexCast v453
  let c22_104 : Index := 22#32
  ![v454.toNat, 22]
def k0_off34 (i : grid0.Coords) : Fin 2 → Nat :=
  let c8_i32_103 : BitVec 32 := 8#32
  let arg0 : BitVec 32 := BitVec.ofNat 32 (i 0).val
  let v453 : BitVec 32 := Scalar.addi c8_i32_103 arg0
  let v459 : Index := Scalar.indexCast v453
  let c21_106 : Index := 21#32
  ![v459.toNat, 21]
def k0_off35 (i : grid0.Coords) : Fin 2 → Nat :=
  let c8_i32_103 : BitVec 32 := 8#32
  let arg0 : BitVec 32 := BitVec.ofNat 32 (i 0).val
  let v453 : BitVec 32 := Scalar.addi c8_i32_103 arg0
  let v465 : Index := Scalar.indexCast v453
  let c20_108 : Index := 20#32
  ![v465.toNat, 20]
def k0_off36 (i : grid0.Coords) : Fin 2 → Nat :=
  let c8_i32_103 : BitVec 32 := 8#32
  let arg0 : BitVec 32 := BitVec.ofNat 32 (i 0).val
  let v453 : BitVec 32 := Scalar.addi c8_i32_103 arg0
  let v471 : Index := Scalar.indexCast v453
  let c19_110 : Index := 19#32
  ![v471.toNat, 19]
def k0_off37 (i : grid0.Coords) : Fin 2 → Nat :=
  let c8_i32_103 : BitVec 32 := 8#32
  let arg0 : BitVec 32 := BitVec.ofNat 32 (i 0).val
  let v453 : BitVec 32 := Scalar.addi c8_i32_103 arg0
  let v477 : Index := Scalar.indexCast v453
  let c18_112 : Index := 18#32
  ![v477.toNat, 18]
def k0_off38 (i : grid0.Coords) : Fin 2 → Nat :=
  let c8_i32_103 : BitVec 32 := 8#32
  let arg0 : BitVec 32 := BitVec.ofNat 32 (i 0).val
  let v453 : BitVec 32 := Scalar.addi c8_i32_103 arg0
  let v483 : Index := Scalar.indexCast v453
  let c17_114 : Index := 17#32
  ![v483.toNat, 17]
def k0_off39 (i : grid0.Coords) : Fin 2 → Nat :=
  let c8_i32_103 : BitVec 32 := 8#32
  let arg0 : BitVec 32 := BitVec.ofNat 32 (i 0).val
  let v453 : BitVec 32 := Scalar.addi c8_i32_103 arg0
  let v489 : Index := Scalar.indexCast v453
  let c16_116 : Index := 16#32
  ![v489.toNat, 16]
def k0_off40 (i : grid0.Coords) : Fin 2 → Nat :=
  let c8_i32_103 : BitVec 32 := 8#32
  let arg0 : BitVec 32 := BitVec.ofNat 32 (i 0).val
  let v453 : BitVec 32 := Scalar.addi c8_i32_103 arg0
  let v495 : Index := Scalar.indexCast v453
  let c15_118 : Index := 15#32
  ![v495.toNat, 15]
def k0_off41 (i : grid0.Coords) : Fin 2 → Nat :=
  let c8_i32_103 : BitVec 32 := 8#32
  let arg0 : BitVec 32 := BitVec.ofNat 32 (i 0).val
  let v453 : BitVec 32 := Scalar.addi c8_i32_103 arg0
  let v501 : Index := Scalar.indexCast v453
  let c14_120 : Index := 14#32
  ![v501.toNat, 14]
def k0_off42 (i : grid0.Coords) : Fin 2 → Nat :=
  let c8_i32_103 : BitVec 32 := 8#32
  let arg0 : BitVec 32 := BitVec.ofNat 32 (i 0).val
  let v453 : BitVec 32 := Scalar.addi c8_i32_103 arg0
  let v507 : Index := Scalar.indexCast v453
  let c13_122 : Index := 13#32
  ![v507.toNat, 13]
def k0_off43 (i : grid0.Coords) : Fin 2 → Nat :=
  let c8_i32_103 : BitVec 32 := 8#32
  let arg0 : BitVec 32 := BitVec.ofNat 32 (i 0).val
  let v453 : BitVec 32 := Scalar.addi c8_i32_103 arg0
  let v513 : Index := Scalar.indexCast v453
  let c12_124 : Index := 12#32
  ![v513.toNat, 12]
def k0_off44 (i : grid0.Coords) : Fin 2 → Nat :=
  let c8_i32_103 : BitVec 32 := 8#32
  let arg0 : BitVec 32 := BitVec.ofNat 32 (i 0).val
  let v453 : BitVec 32 := Scalar.addi c8_i32_103 arg0
  let v519 : Index := Scalar.indexCast v453
  let c11_126 : Index := 11#32
  ![v519.toNat, 11]
def k0_off45 (i : grid0.Coords) : Fin 2 → Nat :=
  let c8_i32_103 : BitVec 32 := 8#32
  let arg0 : BitVec 32 := BitVec.ofNat 32 (i 0).val
  let v453 : BitVec 32 := Scalar.addi c8_i32_103 arg0
  let v525 : Index := Scalar.indexCast v453
  let c10_128 : Index := 10#32
  ![v525.toNat, 10]
def k0_off46 (i : grid0.Coords) : Fin 2 → Nat :=
  let c8_i32_103 : BitVec 32 := 8#32
  let arg0 : BitVec 32 := BitVec.ofNat 32 (i 0).val
  let v453 : BitVec 32 := Scalar.addi c8_i32_103 arg0
  let v531 : Index := Scalar.indexCast v453
  let c9_130 : Index := 9#32
  ![v531.toNat, 9]
def k0_off47 (i : grid0.Coords) : Fin 2 → Nat :=
  let c8_i32_103 : BitVec 32 := 8#32
  let arg0 : BitVec 32 := BitVec.ofNat 32 (i 0).val
  let v453 : BitVec 32 := Scalar.addi c8_i32_103 arg0
  let v537 : Index := Scalar.indexCast v453
  let c8_132 : Index := 8#32
  ![v537.toNat, 8]
def k0_off48 (i : grid0.Coords) : Fin 2 → Nat :=
  let c8_i32_103 : BitVec 32 := 8#32
  let arg0 : BitVec 32 := BitVec.ofNat 32 (i 0).val
  let v453 : BitVec 32 := Scalar.addi c8_i32_103 arg0
  let v543 : Index := Scalar.indexCast v453
  let c7_134 : Index := 7#32
  ![v543.toNat, 7]
def k0_off49 (i : grid0.Coords) : Fin 2 → Nat :=
  let c8_i32_103 : BitVec 32 := 8#32
  let arg0 : BitVec 32 := BitVec.ofNat 32 (i 0).val
  let v453 : BitVec 32 := Scalar.addi c8_i32_103 arg0
  let v549 : Index := Scalar.indexCast v453
  let c6_136 : Index := 6#32
  ![v549.toNat, 6]
def k0_off50 (i : grid0.Coords) : Fin 2 → Nat :=
  let c8_i32_103 : BitVec 32 := 8#32
  let arg0 : BitVec 32 := BitVec.ofNat 32 (i 0).val
  let v453 : BitVec 32 := Scalar.addi c8_i32_103 arg0
  let v555 : Index := Scalar.indexCast v453
  let c5_138 : Index := 5#32
  ![v555.toNat, 5]
def k0_off51 (i : grid0.Coords) : Fin 2 → Nat :=
  let c8_i32_103 : BitVec 32 := 8#32
  let arg0 : BitVec 32 := BitVec.ofNat 32 (i 0).val
  let v453 : BitVec 32 := Scalar.addi c8_i32_103 arg0
  let v561 : Index := Scalar.indexCast v453
  let c4_140 : Index := 4#32
  ![v561.toNat, 4]
def k0_off52 (i : grid0.Coords) : Fin 2 → Nat :=
  let c8_i32_103 : BitVec 32 := 8#32
  let arg0 : BitVec 32 := BitVec.ofNat 32 (i 0).val
  let v453 : BitVec 32 := Scalar.addi c8_i32_103 arg0
  let v567 : Index := Scalar.indexCast v453
  let c3_142 : Index := 3#32
  ![v567.toNat, 3]
def k0_off53 (i : grid0.Coords) : Fin 2 → Nat :=
  let c8_i32_103 : BitVec 32 := 8#32
  let arg0 : BitVec 32 := BitVec.ofNat 32 (i 0).val
  let v453 : BitVec 32 := Scalar.addi c8_i32_103 arg0
  let v573 : Index := Scalar.indexCast v453
  let c2_144 : Index := 2#32
  ![v573.toNat, 2]
def k0_off54 (i : grid0.Coords) : Fin 2 → Nat :=
  let c8_i32_103 : BitVec 32 := 8#32
  let arg0 : BitVec 32 := BitVec.ofNat 32 (i 0).val
  let v453 : BitVec 32 := Scalar.addi c8_i32_103 arg0
  let v579 : Index := Scalar.indexCast v453
  let c1_146 : Index := 1#32
  ![v579.toNat, 1]
def k0_off55 (i : grid0.Coords) : Fin 2 → Nat :=
  let c8_i32_103 : BitVec 32 := 8#32
  let arg0 : BitVec 32 := BitVec.ofNat 32 (i 0).val
  let v453 : BitVec 32 := Scalar.addi c8_i32_103 arg0
  let v585 : Index := Scalar.indexCast v453
  let c0_148 : Index := 0#32
  ![v585.toNat, 0]
def k0_off56 (i : grid0.Coords) : Fin 2 → Nat :=
  let c8_i32_157 : BitVec 32 := 8#32
  let arg0 : BitVec 32 := BitVec.ofNat 32 (i 0).val
  let v601 : BitVec 32 := Scalar.addi c8_i32_157 arg0
  let v602 : Index := Scalar.indexCast v601
  let c27_158 : Index := 27#32
  ![v602.toNat, 27]
def k0_off57 (i : grid0.Coords) : Fin 2 → Nat :=
  let c8_i32_157 : BitVec 32 := 8#32
  let arg0 : BitVec 32 := BitVec.ofNat 32 (i 0).val
  let v601 : BitVec 32 := Scalar.addi c8_i32_157 arg0
  let v607 : Index := Scalar.indexCast v601
  let c26_160 : Index := 26#32
  ![v607.toNat, 26]
def k0_off58 (i : grid0.Coords) : Fin 2 → Nat :=
  let c8_i32_157 : BitVec 32 := 8#32
  let arg0 : BitVec 32 := BitVec.ofNat 32 (i 0).val
  let v601 : BitVec 32 := Scalar.addi c8_i32_157 arg0
  let v613 : Index := Scalar.indexCast v601
  let c25_162 : Index := 25#32
  ![v613.toNat, 25]
def k0_off59 (i : grid0.Coords) : Fin 2 → Nat :=
  let c8_i32_157 : BitVec 32 := 8#32
  let arg0 : BitVec 32 := BitVec.ofNat 32 (i 0).val
  let v601 : BitVec 32 := Scalar.addi c8_i32_157 arg0
  let v619 : Index := Scalar.indexCast v601
  let c24_164 : Index := 24#32
  ![v619.toNat, 24]
def k0_off60 (i : grid0.Coords) : Fin 2 → Nat :=
  let c8_i32_157 : BitVec 32 := 8#32
  let arg0 : BitVec 32 := BitVec.ofNat 32 (i 0).val
  let v601 : BitVec 32 := Scalar.addi c8_i32_157 arg0
  let v625 : Index := Scalar.indexCast v601
  let c23_166 : Index := 23#32
  ![v625.toNat, 23]
def k0_off61 (i : grid0.Coords) : Fin 2 → Nat :=
  let c8_i32_221 : BitVec 32 := 8#32
  let arg0 : BitVec 32 := BitVec.ofNat 32 (i 0).val
  let v779 : BitVec 32 := Scalar.addi c8_i32_221 arg0
  let v780 : Index := Scalar.indexCast v779
  let c31_222 : Index := 31#32
  ![v780.toNat, 31]
def k0_off62 (i : grid0.Coords) : Fin 2 → Nat :=
  let c8_i32_221 : BitVec 32 := 8#32
  let arg0 : BitVec 32 := BitVec.ofNat 32 (i 0).val
  let v779 : BitVec 32 := Scalar.addi c8_i32_221 arg0
  let v785 : Index := Scalar.indexCast v779
  let c30_224 : Index := 30#32
  ![v785.toNat, 30]
def k0_off63 (i : grid0.Coords) : Fin 2 → Nat :=
  let c8_i32_221 : BitVec 32 := 8#32
  let arg0 : BitVec 32 := BitVec.ofNat 32 (i 0).val
  let v779 : BitVec 32 := Scalar.addi c8_i32_221 arg0
  let v791 : Index := Scalar.indexCast v779
  let c29_226 : Index := 29#32
  ![v791.toNat, 29]
def k0_off64 (i : grid0.Coords) : Fin 2 → Nat :=
  let c8_i32_221 : BitVec 32 := 8#32
  let arg0 : BitVec 32 := BitVec.ofNat 32 (i 0).val
  let v779 : BitVec 32 := Scalar.addi c8_i32_221 arg0
  let v797 : Index := Scalar.indexCast v779
  let c28_228 : Index := 28#32
  ![v797.toNat, 28]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16x32 : Shape := ⟨2, ![16, 32]⟩
abbrev S8x32 : Shape := ⟨2, ![8, 32]⟩
abbrev S8 : Shape := ⟨1, ![8]⟩
abbrev S8x1x1 : Shape := ⟨3, ![8, 1, 1]⟩
abbrev S_ : Shape := ⟨0, ![]⟩
abbrev S256 : Shape := ⟨1, ![256]⟩
abbrev S1x1x256 : Shape := ⟨3, ![1, 1, 256]⟩
abbrev S8x1x256 : Shape := ⟨3, ![8, 1, 256]⟩
abbrev S1x256x1 : Shape := ⟨3, ![1, 256, 1]⟩
abbrev S8x256x256 : Shape := ⟨3, ![8, 256, 256]⟩
abbrev S8x256x256x1 : Shape := ⟨4, ![8, 256, 256, 1]⟩
abbrev S8x8x256x256 : Shape := ⟨4, ![8, 8, 256, 256]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S1x128x256 : Shape := ⟨3, ![1, 128, 256]⟩
abbrev S3x128x256 : Shape := ⟨3, ![3, 128, 256]⟩
abbrev S3x128x256x1 : Shape := ⟨4, ![3, 128, 256, 1]⟩
abbrev S8x3x128x256 : Shape := ⟨4, ![8, 3, 128, 256]⟩

abbrev nBuf : Space → Nat
  | .hbm => 139
  | .vmem => 0
  | .smem => 0
  | _ => 0

abbrev hbmTy0_0 (i : Nat) : BufTy := match i % 128 with
  | 0 => ⟨S16x32, .f32⟩
  | 1 => ⟨S8x32, .f32⟩
  | 2 => ⟨S8x32, .f32⟩
  | 3 => ⟨S8, .i32⟩
  | 4 => ⟨S8x1x1, .i32⟩
  | 5 => ⟨S_, .i32⟩
  | 6 => ⟨S8x1x1, .i32⟩
  | 7 => ⟨S8x1x1, .i32⟩
  | 8 => ⟨S256, .i32⟩
  | 9 => ⟨S1x1x256, .i32⟩
  | 10 => ⟨S8x1x256, .i32⟩
  | 11 => ⟨S8x1x256, .i32⟩
  | 12 => ⟨S8x1x256, .i32⟩
  | 13 => ⟨S256, .i32⟩
  | 14 => ⟨S1x256x1, .i32⟩
  | 15 => ⟨S8x256x256, .i32⟩
  | 16 => ⟨S8x256x256, .i32⟩
  | 17 => ⟨S8x256x256, .i32⟩
  | 18 => ⟨S_, .i32⟩
  | 19 => ⟨S8x256x256, .i32⟩
  | 20 => ⟨S8x256x256, .i32⟩
  | 21 => ⟨S_, .i32⟩
  | 22 => ⟨S8x256x256, .i32⟩
  | 23 => ⟨S8x256x256, .i32⟩
  | 24 => ⟨S8x256x256, .f32⟩
  | 25 => ⟨S_, .f32⟩
  | 26 => ⟨S8x256x256, .f32⟩
  | 27 => ⟨S8x256x256, .f32⟩
  | 28 => ⟨S8x256x256, .f32⟩
  | 29 => ⟨S_, .f32⟩
  | 30 => ⟨S8x256x256, .f32⟩
  | 31 => ⟨S8x256x256, .f32⟩
  | 32 => ⟨S_, .f32⟩
  | 33 => ⟨S8x256x256, .f32⟩
  | 34 => ⟨S8x256x256, .f32⟩
  | 35 => ⟨S8x256x256, .i32⟩
  | 36 => ⟨S_, .i32⟩
  | 37 => ⟨S8x256x256, .i32⟩
  | 38 => ⟨S8x256x256, .i32⟩
  | 39 => ⟨S_, .i32⟩
  | 40 => ⟨S8x256x256, .i32⟩
  | 41 => ⟨S8x256x256, .i32⟩
  | 42 => ⟨S_, .i32⟩
  | 43 => ⟨S8x256x256, .i32⟩
  | 44 => ⟨S8x256x256, .i1⟩
  | 45 => ⟨S8x256x256, .i32⟩
  | 46 => ⟨S8x256x256x1, .i32⟩
  | 47 => ⟨S8x8x256x256, .f32⟩
  | 48 => ⟨S128, .i32⟩
  | 49 => ⟨S128x1, .i32⟩
  | 50 => ⟨S_, .i32⟩
  | 51 => ⟨S128x1, .i32⟩
  | 52 => ⟨S128x1, .i32⟩
  | 53 => ⟨S256, .i32⟩
  | 54 => ⟨S1x256, .i32⟩
  | 55 => ⟨S128x256, .i32⟩
  | 56 => ⟨S128x256, .i32⟩
  | 57 => ⟨S128x256, .i32⟩
  | 58 => ⟨S_, .i32⟩
  | 59 => ⟨S128x256, .i32⟩
  | 60 => ⟨S128x256, .i1⟩
  | 61 => ⟨S_, .i32⟩
  | 62 => ⟨S128x256, .i32⟩
  | 63 => ⟨S128x256, .i1⟩
  | 64 => ⟨S128x256, .i1⟩
  | 65 => ⟨S_, .i32⟩
  | 66 => ⟨S128x256, .i32⟩
  | 67 => ⟨S128x256, .i1⟩
  | 68 => ⟨S_, .i32⟩
  | 69 => ⟨S128x256, .i32⟩
  | 70 => ⟨S128x256, .i1⟩
  | 71 => ⟨S128x256, .i1⟩
  | 72 => ⟨S_, .i32⟩
  | 73 => ⟨S128x256, .i32⟩
  | 74 => ⟨S128x256, .i1⟩
  | 75 => ⟨S_, .i32⟩
  | 76 => ⟨S128x256, .i32⟩
  | 77 => ⟨S128x256, .i1⟩
  | 78 => ⟨S128x256, .i1⟩
  | 79 => ⟨S1x128x256, .i1⟩
  | 80 => ⟨S1x128x256, .i1⟩
  | 81 => ⟨S1x128x256, .i1⟩
  | 82 => ⟨S3x128x256, .i1⟩
  | 83 => ⟨S_, .i32⟩
  | 84 => ⟨S128x256, .i32⟩
  | 85 => ⟨S128x256, .i32⟩
  | 86 => ⟨S_, .i32⟩
  | 87 => ⟨S128x256, .i32⟩
  | 88 => ⟨S128x256, .i32⟩
  | 89 => ⟨S_, .i32⟩
  | 90 => ⟨S128x256, .i32⟩
  | 91 => ⟨S128x256, .i32⟩
  | 92 => ⟨S1x128x256, .i32⟩
  | 93 => ⟨S1x128x256, .i32⟩
  | 94 => ⟨S1x128x256, .i32⟩
  | 95 => ⟨S3x128x256, .i32⟩
  | 96 => ⟨S_, .i32⟩
  | 97 => ⟨S3x128x256, .i32⟩
  | 98 => ⟨S3x128x256, .i32⟩
  | 99 => ⟨S_, .i32⟩
  | 100 => ⟨S3x128x256, .i32⟩
  | 101 => ⟨S3x128x256, .i32⟩
  | 102 => ⟨S3x128x256, .f32⟩
  | 103 => ⟨S_, .f32⟩
  | 104 => ⟨S3x128x256, .f32⟩
  | 105 => ⟨S3x128x256, .f32⟩
  | 106 => ⟨S3x128x256, .f32⟩
  | 107 => ⟨S_, .f32⟩
  | 108 => ⟨S3x128x256, .f32⟩
  | 109 => ⟨S3x128x256, .f32⟩
  | 110 => ⟨S_, .f32⟩
  | 111 => ⟨S3x128x256, .f32⟩
  | 112 => ⟨S3x128x256, .f32⟩
  | 113 => ⟨S3x128x256, .i32⟩
  | 114 => ⟨S_, .i32⟩
  | 115 => ⟨S3x128x256, .i32⟩
  | 116 => ⟨S3x128x256, .i32⟩
  | 117 => ⟨S_, .i32⟩
  | 118 => ⟨S3x128x256, .i32⟩
  | 119 => ⟨S3x128x256, .i32⟩
  | 120 => ⟨S_, .i32⟩
  | 121 => ⟨S3x128x256, .i32⟩
  | 122 => ⟨S3x128x256, .i1⟩
  | 123 => ⟨S3x128x256, .i32⟩
  | 124 => ⟨S3x128x256x1, .i32⟩
  | 125 => ⟨S8x3x128x256, .f32⟩
  | 126 => ⟨S_, .i32⟩
  | 127 => ⟨S8x256x256, .i32⟩
  | _ => ⟨S16x32, .f32⟩

abbrev hbmTy0_1 (i : Nat) : BufTy := match i % 128 with
  | 0 => ⟨S8x256x256, .i1⟩
  | 1 => ⟨S_, .f32⟩
  | 2 => ⟨S_, .f32⟩
  | 3 => ⟨S8x8x256x256, .i1⟩
  | 4 => ⟨S8x8x256x256, .f32⟩
  | 5 => ⟨S8x8x256x256, .f32⟩
  | 6 => ⟨S_, .f32⟩
  | 7 => ⟨S_, .f32⟩
  | 8 => ⟨S8x3x128x256, .i1⟩
  | 9 => ⟨S8x3x128x256, .f32⟩
  | 10 => ⟨S8x3x128x256, .f32⟩
  | _ => ⟨S16x32, .f32⟩

abbrev hbmTy (i : Nat) : BufTy := match i / 128 with
  | 0 => hbmTy0_0 i
  | 1 => hbmTy0_1 i
  | _ => ⟨S16x32, .f32⟩

abbrev bufTy : (tb : Table) → Fin (tcTables nBuf tb) → BufTy
  | .hbm, ⟨i, _⟩ => hbmTy i
  | _, _ => ⟨S16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c_0 : Ref sig .tc := ⟨.hbm, 18, rfl⟩
abbrev main_v16 : Ref sig .tc := ⟨.hbm, 19, rfl⟩
abbrev main_v17 : Ref sig .tc := ⟨.hbm, 20, rfl⟩
abbrev main_c_1 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_4 : Ref sig .tc := ⟨.hbm, 36, rfl⟩
abbrev main_v29 : Ref sig .tc := ⟨.hbm, 37, rfl⟩
abbrev main_v30 : Ref sig .tc := ⟨.hbm, 38, rfl⟩
abbrev main_c_5 : Ref sig .tc := ⟨.hbm, 39, rfl⟩
abbrev main_v31 : Ref sig .tc := ⟨.hbm, 40, rfl⟩
abbrev main_v32 : Ref sig .tc := ⟨.hbm, 41, rfl⟩
abbrev main_c_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_7 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_8 : Ref sig .tc := ⟨.hbm, 58, rfl⟩
abbrev main_v47 : Ref sig .tc := ⟨.hbm, 59, rfl⟩
abbrev main_v48 : Ref sig .tc := ⟨.hbm, 60, rfl⟩
abbrev main_c_9 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_10 : Ref sig .tc := ⟨.hbm, 65, rfl⟩
abbrev main_v52 : Ref sig .tc := ⟨.hbm, 66, rfl⟩
abbrev main_v53 : Ref sig .tc := ⟨.hbm, 67, rfl⟩
abbrev main_c_11 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_12 : Ref sig .tc := ⟨.hbm, 72, rfl⟩
abbrev main_v57 : Ref sig .tc := ⟨.hbm, 73, rfl⟩
abbrev main_v58 : Ref sig .tc := ⟨.hbm, 74, rfl⟩
abbrev main_c_13 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_14 : Ref sig .tc := ⟨.hbm, 83, rfl⟩
abbrev main_v66 : Ref sig .tc := ⟨.hbm, 84, rfl⟩
abbrev main_v67 : Ref sig .tc := ⟨.hbm, 85, rfl⟩
abbrev main_c_15 : Ref sig .tc := ⟨.hbm, 86, rfl⟩
abbrev main_v68 : Ref sig .tc := ⟨.hbm, 87, rfl⟩
abbrev main_v69 : Ref sig .tc := ⟨.hbm, 88, rfl⟩
abbrev main_c_16 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_17 : Ref sig .tc := ⟨.hbm, 96, rfl⟩
abbrev main_v76 : Ref sig .tc := ⟨.hbm, 97, rfl⟩
abbrev main_v77 : Ref sig .tc := ⟨.hbm, 98, rfl⟩
abbrev main_c_18 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_19 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_20 : Ref sig .tc := ⟨.hbm, 107, rfl⟩
abbrev main_v84 : Ref sig .tc := ⟨.hbm, 108, rfl⟩
abbrev main_v85 : Ref sig .tc := ⟨.hbm, 109, rfl⟩
abbrev main_cst_21 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_22 : Ref sig .tc := ⟨.hbm, 114, rfl⟩
abbrev main_v89 : Ref sig .tc := ⟨.hbm, 115, rfl⟩
abbrev main_v90 : Ref sig .tc := ⟨.hbm, 116, rfl⟩
abbrev main_c_23 : Ref sig .tc := ⟨.hbm, 117, rfl⟩
abbrev main_v91 : Ref sig .tc := ⟨.hbm, 118, rfl⟩
abbrev main_v92 : Ref sig .tc := ⟨.hbm, 119, rfl⟩
abbrev main_c_24 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_c_25 : Ref sig .tc := ⟨.hbm, 126, rfl⟩
abbrev main_v98 : Ref sig .tc := ⟨.hbm, 127, rfl⟩
abbrev main_v99 : Ref sig .tc := ⟨.hbm, 128, rfl⟩
abbrev main_cst_26 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_v100 : Ref sig .tc := ⟨.hbm, 133, rfl⟩
abbrev main_cst_27 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_v101 : Ref sig .tc := ⟨.hbm, 138, rfl⟩

abbrev nD : Nat := 1
abbrev τ : Topo := Topo.v7x

variable {F : FTy → Type} [FloatOps F]
-- ==== Proof.Tail.lean ====
module
public import Idealize.ShloMosaic.Lib.Pointwise
@[expose] public section

/-!
The attention of one query as a quotient of sums over eight blocks of 256 keys, and the two ways it is computed: over
the keys up to the query's own block, the ones not selected at minus infinity, or over three selected blocks and the
query's own.
-/

noncomputable section

open Idealize.ShloMosaic

namespace Cert.Moba

/-- The largest of all scores. -/
def top (T : Fin 8 → Fin 256 → EReal) : EReal := Finset.univ.sup fun n => Finset.univ.sup fun j => T n j

/-- The weight of a score before it is normalized. -/
def wt (T : Fin 8 → Fin 256 → EReal) (n : Fin 8) (j : Fin 256) : EReal := Ideal.exp (T n j - top T)

/-- The attention of scores `T` to values `v`. -/
def att (T v : Fin 8 → Fin 256 → EReal) : EReal :=
  Ideal.div (∑ n, ∑ j, v n j * wt T n j) (∑ n, ∑ j, wt T n j)

theorem ofBits_neg_inf : Ideal.ofBits FTy.f32 4286578688#32 = ⊥ := by
  simp [Ideal.ofBits, Ideal.ieee]

theorem ofBits_256 : Ideal.ofBits FTy.f32 1132462080#32 = ((256 : ℝ) : EReal) := by
  simp [Ideal.ofBits, Ideal.ieee, -EReal.coe_mul]; norm_num

/-- Folding the maximum from minus infinity takes the supremum. -/
theorem fold_max {ι : Type} (s : Finset ι) (f : ι → EReal) :
    s.fold max (Ideal.ofBits FTy.f32 4286578688#32) f = s.sup f := by
  rw [ofBits_neg_inf]; rfl

theorem dite_of {p : Prop} [Decidable p] {α : Type} {a : p → α} {b : ¬p → α} {x : α} (h1 : ∀ h, a h = x)
    (h2 : ∀ h, b h = x) : dite p a b = x := by
  split_ifs with h
  exacts [h1 h, h2 h]

theorem exp_bot_sub (x : EReal) : Ideal.exp (⊥ - x) = 0 := by
  rw [EReal.bot_sub]; rfl

/-- A sum over the first `m` of eight blocks, key by key, is the sum over all eight if the others add nothing. -/
theorem sum_blocks (m : ℕ) (hm : m ≤ 8) (g : Fin 8 → Fin 256 → EReal) (h0 : ∀ n : Fin 8, m ≤ n.val → ∀ j, g n j = 0) :
    ∑ x : Fin (m * 256), g ⟨x.val / 256, by omega⟩ ⟨x.val % 256, by omega⟩ = ∑ n, ∑ j, g n j := by
  have e : ∑ x : Fin (m * 256), g ⟨x.val / 256, by omega⟩ ⟨x.val % 256, by omega⟩
      = ∑ p : Fin m × Fin 256, g ⟨p.1.val, by omega⟩ p.2 := by
    refine Fintype.sum_equiv (finProdFinEquiv (m := m) (n := 256)).symm _ _ fun x => ?_
    rfl
  rw [e, Fintype.sum_prod_type]
  refine Finset.sum_of_injOn (fun n : Fin m => (⟨n.val, by omega⟩ : Fin 8)) (fun a _ b _ h => ?_) (fun _ _ => Finset.mem_coe.2 (Finset.mem_univ _))
    (fun n _ hn => ?_) (fun n _ => rfl)
  · exact Fin.ext (congrArg (fun q : Fin 8 => q.val) h)
  · refine Finset.sum_eq_zero fun j _ => h0 n (not_lt.1 fun hlt => hn ⟨⟨n.val, hlt⟩, by simp, rfl⟩) j

theorem sup_blocks (m : ℕ) (hm : m ≤ 8) (g : Fin 8 → Fin 256 → EReal) (h0 : ∀ n : Fin 8, m ≤ n.val → ∀ j, g n j = ⊥) :
    (Finset.univ.sup fun x : Fin (m * 256) => g ⟨x.val / 256, by omega⟩ ⟨x.val % 256, by omega⟩) = top g := by
  unfold top
  refine le_antisymm (Finset.sup_le fun x _ => ?_) (Finset.sup_le fun n _ => Finset.sup_le fun j _ => ?_)
  · exact le_trans (Finset.le_sup (f := fun j => g ⟨x.val / 256, by omega⟩ j) (Finset.mem_univ _))
      (Finset.le_sup (f := fun n => Finset.univ.sup fun j => g n j) (Finset.mem_univ _))
  · by_cases hn : m ≤ n.val
    · rw [h0 n hn j]; exact bot_le
    · have := Finset.le_sup (f := fun x : Fin (m * 256) => g ⟨x.val / 256, by omega⟩ ⟨x.val % 256, by omega⟩)
        (Finset.mem_univ (⟨n.val * 256 + j.val, by omega⟩ : Fin (m * 256)))
      refine le_trans (le_of_eq ?_) this
      exact congrArg₂ g (Fin.ext (by simp only; omega)) (Fin.ext (by simp only; omega))

/-- The attention over the keys of the first `m` blocks. -/
theorem tail_block (m : ℕ) (hm : m ≤ 8) (T v : Fin 8 → Fin 256 → EReal) (h0 : ∀ n : Fin 8, m ≤ n.val → ∀ j, T n j = ⊥)
    {a e : Fin (m * 256) → EReal} (ha : ∀ x, a x = v ⟨x.val / 256, by omega⟩ ⟨x.val % 256, by omega⟩)
    (he : ∀ x, e x = Ideal.exp (T ⟨x.val / 256, by omega⟩ ⟨x.val % 256, by omega⟩
      - Finset.univ.sup fun x : Fin (m * 256) => T ⟨x.val / 256, by omega⟩ ⟨x.val % 256, by omega⟩)) :
    Ideal.div (∑ x, a x * e x) (∑ x, e x) = att T v := by
  obtain rfl := funext ha
  obtain rfl := funext he
  rw [sup_blocks m hm T h0]
  have hw : ∀ n : Fin 8, m ≤ n.val → ∀ j, wt T n j = 0 := fun n hn j => by rw [wt, h0 n hn j, exp_bot_sub]
  exact congrArg₂ Ideal.div
    (sum_blocks m hm (fun n j => v n j * wt T n j) fun n hn j => by rw [hw n hn j, mul_zero])
    (sum_blocks m hm (wt T) hw)

/-- How many past blocks `m < i` rank before block `n`: a larger gate, or the same gate and a lower number. -/
def rank (g : Fin 8 → EReal) (i n : Fin 8) : ℕ :=
  ((Finset.univ : Finset (Fin 8)).filter fun m => m < i ∧ (g n < g m ∨ g m = g n ∧ m < n)).card

/-- With at most three past blocks, each of them is among the best three. -/
theorem rank_small (g : Fin 8 → EReal) (i n : Fin 8) (hi : i ≤ 3) (hn : n < i) : rank g i n < 3 := by
  have hsub : ((Finset.univ : Finset (Fin 8)).filter fun m => m < i ∧ (g n < g m ∨ g m = g n ∧ m < n))
      ⊆ ((Finset.univ : Finset (Fin 8)).filter fun m => m < 3 ∧ m ≠ n) := by
    intro m hm
    simp only [Finset.mem_filter, Finset.mem_univ, true_and] at hm ⊢
    refine ⟨lt_of_lt_of_le hm.1 hi, ?_⟩
    rintro rfl
    rcases hm.2 with h | ⟨_, h⟩ <;> exact lt_irrefl _ h
  have hn3 : n < 3 := lt_of_lt_of_le hn hi
  have hcard : ∀ n : Fin 8, n < 3 → ((Finset.univ : Finset (Fin 8)).filter fun m => m < 3 ∧ m ≠ n).card < 3 := by decide
  exact lt_of_le_of_lt (Finset.card_le_card hsub) (hcard n hn3)

/-- How a query likes a block: its product with the block's mean key. -/
def hgate (K : Fin 2048 → Fin 64 → EReal) (Q : Fin 64 → Fin 2048 → EReal) (s : Fin 2048) (n : Fin 8) : EReal :=
  ∑ d : Fin 64, Ideal.div (∑ x : Fin 256, K ⟨n.val * 256 + x.val, by omega⟩ d) (Ideal.ofBits FTy.f32 1132462080#32) * Q d s

/-- The biased score of key `j` of block `n` for query `q` of block `i`. -/
def hraw (K : Fin 2048 → Fin 64 → EReal) (Q : Fin 64 → Fin 2048 → EReal) (B : Fin 8 → Fin 256 → Fin 256 → EReal)
    (i : Fin 8) (q : Fin 256) (n : Fin 8) (j : Fin 256) : EReal :=
  ∑ d : Fin 64, K ⟨n.val * 256 + j.val, by omega⟩ d * Q d ⟨i.val * 256 + q.val, by omega⟩ + B (i - n) j q

/-- The score with blocks neither selected nor the query's own put out of the running. -/
def hscore (K : Fin 2048 → Fin 64 → EReal) (Q : Fin 64 → Fin 2048 → EReal) (B : Fin 8 → Fin 256 → Fin 256 → EReal)
    (i : Fin 8) (q : Fin 256) (n : Fin 8) (j : Fin 256) : EReal :=
  if n < i ∧ rank (hgate K Q ⟨i.val * 256 + q.val, by omega⟩) i n < 3 ∨ n = i then hraw K Q B i q n j else ⊥

/-- One head's attention: lane `d` of query `q` of block `i`. -/
def hout (K : Fin 2048 → Fin 64 → EReal) (Q V : Fin 64 → Fin 2048 → EReal) (B : Fin 8 → Fin 256 → Fin 256 → EReal)
    (i : Fin 8) (q : Fin 256) (d : Fin 64) : EReal :=
  att (hscore K Q B i q) (fun n j => V d ⟨n.val * 256 + j.val, by omega⟩)

/-- A sum over the 128 lanes of a slab, the second head's lanes zero. -/
theorem sum_lanes0 (f g : Fin 128 → EReal) :
    ∑ l : Fin 128, f l * (if l.val < 64 then g l else 0) = ∑ d : Fin 64, f ⟨d.val, by omega⟩ * g ⟨d.val, by omega⟩ := by
  rw [Fin.sum_univ_add (a := 64) (b := 64) (fun l : Fin 128 => f l * (if l.val < 64 then g l else 0))]
  refine (congrArg₂ (· + ·) (Finset.sum_congr rfl fun d _ => ?_) (Finset.sum_eq_zero fun d _ => ?_)).trans (add_zero _)
  · rw [if_pos (by simp)]; rfl
  · rw [if_neg (by simp), mul_zero]

/-- A sum over the 128 lanes of a slab, the first head's lanes zero. -/
theorem sum_lanes1 (f g : Fin 128 → EReal) :
    ∑ l : Fin 128, f l * (if 64 ≤ l.val then g l else 0)
      = ∑ d : Fin 64, f ⟨64 + d.val, by omega⟩ * g ⟨64 + d.val, by omega⟩ := by
  rw [Fin.sum_univ_add (a := 64) (b := 64) (fun l : Fin 128 => f l * (if 64 ≤ l.val then g l else 0))]
  refine (congrArg₂ (· + ·) (Finset.sum_eq_zero fun d _ => ?_) (Finset.sum_congr rfl fun d _ => ?_)).trans (zero_add _)
  · rw [if_neg (by have := d.isLt; simp), mul_zero]
  · rw [if_pos (by simp)]; rfl

end Cert.Moba
-- ==== Proof.Score.lean ====
/- The scores of one grid point of the attention kernel, as functions of the four blocks it reads. A point serves one
   batch entry and one pair of heads; its columns are the 256 queries of a block, once for each head of the pair. -/
module

public import proofs.«01_k».proof.Proof.Gen.KernelIdeal.Frame
public import proofs.«01_k».proof.Proof.Tail
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.Moba

namespace Cert.KernelIdeal.Moba

/-- One past block's vote in the kernel's count: 1 when it ranks before block `n`, else 0. -/
def vote (a b : EReal) (m n : ℕ) : EReal := if a < b ∨ b = a ∧ m < n then 1 else 0

/-- The kernel's vote: a comparison of gates and of block numbers, widened to a number. -/
theorem vote_eq (a b : EReal) (n : Fin 8) (w : BitVec 32) (hw : w.toNat < 8) :
    FloatOps.sitofp (F := Ideal) FTy.f32 (BitVec.setWidth 32 (IntOp.ori (BitVec.ofBool (decide (a < b)))
      (IntOp.andi (BitVec.ofBool (decide (b = a))) (IntOp.cmpi CmpIPredicate.sgt (BitVec.ofNat 32 ↑n) w))))
      = vote a b w.toNat n := by
  have hlt : IntOp.cmpi CmpIPredicate.sgt (BitVec.ofNat 32 ↑n) w = BitVec.ofBool (decide (w.toNat < n.val)) := by
    obtain ⟨m, hm⟩ : ∃ m : Fin 8, w = BitVec.ofNat 32 m.val := ⟨⟨w.toNat, hw⟩, by simp⟩
    subst hm
    revert n m
    decide
  have hbit : ∀ p q r : Bool, ((BitVec.setWidth 32 (IntOp.ori (BitVec.ofBool p)
      (IntOp.andi (BitVec.ofBool q) (BitVec.ofBool r)))).toInt) = if p ∨ q ∧ r then 1 else 0 := by decide
  rw [hlt]
  change (((BitVec.setWidth 32 _).toInt : ℝ) : EReal) = _
  rw [hbit]
  unfold vote
  simp only [decide_eq_true_eq]
  split_ifs <;> simp

/-- The kernel's constant 3. -/
theorem three : Ideal.ofBits FTy.f32 1077936128#32 = ((3 : ℕ) : EReal) := by
  have h : Ideal.ofBits FTy.f32 1077936128#32 = ((3 : ℝ) : EReal) := by
    simp [Ideal.ofBits, Ideal.ieee, -EReal.coe_mul]; norm_num
  exact h.trans (by norm_cast)

/-- A penalty of nothing or of minus infinity, decided by a sum of `k` votes, is the same decided by the rank. -/
theorem penalty_eq (k : ℕ) (hk : k < 8) (g : Fin 8 → EReal) (n : Fin 8) :
    (if (∑ m : Fin k, vote (g n) (g ⟨m, by omega⟩) m n) < Ideal.ofBits FTy.f32 1077936128#32 then (0 : EReal)
      else Named.named (F := Ideal) κ "mask" (φ := FTy.f32) 4048155338#32) = if rank g ⟨k, hk⟩ n < 3 then 0 else ⊥ := by
  rw [IdealRules.named_const.ideal_named_scalar _ _ _ _ rfl, three]
  refine if_congr ?_ rfl rfl
  have hv : ∀ m : Fin k, vote (g n) (g ⟨m, by omega⟩) m n
      = (((if g n < g ⟨m, by omega⟩ ∨ g ⟨m, by omega⟩ = g n ∧ m.val < n.val then 1 else 0 : ℕ)) : EReal) := by
    intro m; unfold vote; split_ifs <;> simp
  rw [Finset.sum_congr rfl fun m _ => hv m, ← Nat.cast_sum, Nat.cast_lt, Finset.sum_boole, rank]
  refine iff_of_eq (congrArg (· < 3) ?_)
  rw [Nat.cast_id]
  refine Finset.card_bij (fun m _ => (⟨m, by omega⟩ : Fin 8)) (fun m hm => ?_) (fun a _ b _ h => ?_) (fun m hm => ?_)
  · simp only [Finset.mem_filter, Finset.mem_univ, true_and] at hm ⊢
    exact ⟨m.isLt, hm⟩
  · exact Fin.ext (congrArg (fun q : Fin 8 => q.val) h)
  · simp only [Finset.mem_filter, Finset.mem_univ, true_and] at hm
    exact ⟨⟨m.val, hm.1⟩, by simpa using hm.2, rfl⟩

variable (x0 : Vec Ideal S1x128x2048 .bf16) (x1 : Vec Ideal S1x2048x128 .bf16) (x2 : Vec Ideal S1x128x2048 .bf16)
  (x3 : Vec Ideal S2x8x256x256 .f32)

/-- Entry `l` of the queries of block `i` in column `c`: the first 256 columns hold the slab's first head, the others
    its second, each with the other head's lanes zero. -/
def qcol (i : Fin 8) (l : Fin 128) (c : Fin 512) : EReal :=
  if h : c.val < 256 then k0_pay118 x0 x1 x2 x3 (ix2 l ⟨i.val * 256 + c.val, by omega⟩)
  else k0_pay120 x0 x1 x2 x3 (ix2 l ⟨i.val * 256 + (c.val - 256), by omega⟩)

/-- Column `c` of block `i`'s gates: how a query likes the mean key of block `n`. -/
def gcol (i : Fin 8) (c : Fin 512) (n : Fin 8) : EReal :=
  if h : c.val < 256 then k0_pay119 x0 x1 x2 x3 (ix2 n ⟨i.val * 256 + c.val, by omega⟩)
  else k0_pay121 x0 x1 x2 x3 (ix2 n ⟨i.val * 256 + (c.val - 256), by omega⟩)

/-- The bias of key `j` at a distance of `δ` blocks, in column `c`. -/
def bcol (δ : Fin 8) (j : Fin 256) (c : Fin 512) : EReal :=
  if h : c.val < 256 then x3 (ix4 0 δ j ⟨c.val, h⟩) else x3 (ix4 1 δ j ⟨c.val - 256, by omega⟩)

/-- The product of key number `k` with column `c` of block `i`. -/
def dcol (i : Fin 8) (k : Fin 2048) (c : Fin 512) : EReal :=
  ∑ l : Fin 128, x1 (ix3 0 k l) * qcol x0 x1 x2 x3 i l c

/-- The biased score of key `j` of block `n` in column `c` of block `i`. -/
def raw (i n : Fin 8) (j : Fin 256) (c : Fin 512) : EReal :=
  dcol x0 x1 x2 x3 i ⟨n.val * 256 + j.val, by omega⟩ c + bcol x3 (i - n) j c

/-- The score with blocks neither selected nor the query's own put out of the running. -/
def score (i n : Fin 8) (j : Fin 256) (c : Fin 512) : EReal :=
  if n < i ∧ rank (gcol x0 x1 x2 x3 i c) i n < 3 ∨ n = i then raw x0 x1 x2 x3 i n j c else ⊥

variable {x0 x1 x2 x3}

theorem score_own (i : Fin 8) (j : Fin 256) (c : Fin 512) :
    score x0 x1 x2 x3 i i j c = raw x0 x1 x2 x3 i i j c := if_pos (Or.inr rfl)

theorem score_small (i n : Fin 8) (hi : i ≤ 3) (hn : n < i) (j : Fin 256) (c : Fin 512) :
    score x0 x1 x2 x3 i n j c = raw x0 x1 x2 x3 i n j c := if_pos (Or.inl ⟨hn, rank_small _ _ _ hi hn⟩)

theorem score_past (i n : Fin 8) (hn : n < i) (j : Fin 256) (c : Fin 512) :
    score x0 x1 x2 x3 i n j c
      = raw x0 x1 x2 x3 i n j c + (if rank (gcol x0 x1 x2 x3 i c) i n < 3 then 0 else ⊥) := by
  unfold score
  by_cases h : rank (gcol x0 x1 x2 x3 i c) i n < 3
  · rw [if_pos (Or.inl ⟨hn, h⟩), if_pos h, add_zero]
  · rw [if_neg (by rintro (⟨_, h'⟩ | h'); exacts [h h', hn.ne h']), if_neg h, EReal.add_bot]

theorem score_future (i n : Fin 8) (hn : i < n) (j : Fin 256) (c : Fin 512) : score x0 x1 x2 x3 i n j c = ⊥ :=
  if_neg (by rintro (⟨h', _⟩ | h'); exacts [hn.not_gt h', hn.ne' h'])

variable (x0 x1 x2 x3)

theorem part_own (i : Fin 8) (j : Fin 256) (c : Fin 512) {k : Fin 2048} (hk : k.val = i.val * 256 + j.val) :
    dcol x0 x1 x2 x3 i k c
        + (if h : c.val < 256 then x3 (ix4 0 0 j ⟨c.val, h⟩) else x3 (ix4 1 0 j ⟨c.val - 256, by omega⟩))
      = score x0 x1 x2 x3 i i j c := by
  rw [score_own, raw, sub_self]
  exact congrArg (fun k => dcol x0 x1 x2 x3 i k c + _) (Fin.ext hk)

theorem part_small (i n : Fin 8) (δ : Fin 8) (hi : i ≤ 3) (hn : n < i) (hδ : i - n = δ) (j : Fin 256) (c : Fin 512)
    {k : Fin 2048} (hk : k.val = n.val * 256 + j.val) :
    dcol x0 x1 x2 x3 i k c
        + (if h : c.val < 256 then x3 (ix4 0 δ j ⟨c.val, h⟩) else x3 (ix4 1 δ j ⟨c.val - 256, by omega⟩))
      = score x0 x1 x2 x3 i n j c := by
  rw [score_small i n hi hn, raw, hδ]
  exact congrArg (fun k => dcol x0 x1 x2 x3 i k c + _) (Fin.ext hk)

theorem part_past (i n : Fin 8) (δ : Fin 8) (hn : n < i) (hδ : i - n = δ) (j : Fin 256) (c : Fin 512)
    {k : Fin 2048} (hk : k.val = n.val * 256 + j.val) :
    dcol x0 x1 x2 x3 i k c
        + (if h : c.val < 256 then x3 (ix4 0 δ j ⟨c.val, h⟩) else x3 (ix4 1 δ j ⟨c.val - 256, by omega⟩))
        + (if rank (gcol x0 x1 x2 x3 i c) i n < 3 then 0 else ⊥)
      = score x0 x1 x2 x3 i n j c := by
  rw [score_past i n hn, raw, hδ]
  exact congrArg (fun k => dcol x0 x1 x2 x3 i k c + _ + _) (Fin.ext hk)

variable {x0 x1 x2 x3}

/-- Key `j` of block `n` is key number `k`. -/
theorem score_at (i n : Fin 8) (j : Fin 256) (c : Fin 512) {N : ℕ} (hN : N ≤ 2048) {k : Fin N}
    (h : n.val * 256 + j.val = k.val) :
    score x0 x1 x2 x3 i n j c = score x0 x1 x2 x3 i ⟨k.val / 256, by omega⟩ ⟨k.val % 256, by omega⟩ c :=
  congrArg₂ (fun n j => score x0 x1 x2 x3 i n j c) (Fin.ext (by simp only; omega)) (Fin.ext (by simp only; omega))

end Cert.KernelIdeal.Moba
-- ==== Proof.Weights1.lean ====
module
public import proofs.«01_k».proof.Proof.Score
public import proofs.«01_k».proof.Proof.Tail
@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.Moba

namespace Cert.KernelIdeal.Moba
variable {x0 : Vec Ideal S1x128x2048 .bf16} {x1 : Vec Ideal S1x2048x128 .bf16} {x2 : Vec Ideal S1x128x2048 .bf16}
  {x3 : Vec Ideal S2x8x256x256 .f32}

/-- The weights of block 0's queries. -/
abbrev wts0 (x0 : Vec Ideal S1x128x2048 .bf16) (x1 : Vec Ideal S1x2048x128 .bf16) (x2 : Vec Ideal S1x128x2048 .bf16)
    (x3 : Vec Ideal S2x8x256x256 .f32) : FVec Ideal S256x512 .f32 :=
  k0_pay9 (k0_pay122 x0 x1 x2 x3) (View.ld x3 r0_3) (View.ld x3 r0_4)

set_option maxHeartbeats 2000000 in
theorem dot0 (k : Fin 256) (c : Fin 512) :
    k0_pay122 x0 x1 x2 x3 (ix2 k c) = dcol x0 x1 x2 x3 0 ⟨k, by omega⟩ c := by
  pointwise [k0_pay122, k0_pay8]
  refine Finset.sum_congr rfl fun l _ => congrArg (x1 (ix3 0 ⟨k, by omega⟩ l) * ·) ?_
  refine dite_congr rfl (fun h => ?_) fun h => ?_
  · exact congrArg (fun q => k0_pay118 x0 x1 x2 x3 (ix2 l q)) (Fin.ext (by simp))
  · exact congrArg (fun q => k0_pay120 x0 x1 x2 x3 (ix2 l q)) (Fin.ext (by simp))

theorem weight0 (k : Fin 256) (c : Fin 512) :
    wts0 x0 x1 x2 x3 (ix2 k c)
      = Ideal.exp (score x0 x1 x2 x3 0 ⟨k.val / 256, by omega⟩ ⟨k.val % 256, by omega⟩ c
        - Finset.univ.sup fun k : Fin 256 => score x0 x1 x2 x3 0 ⟨k.val / 256, by omega⟩ ⟨k.val % 256, by omega⟩ c) := by
  have hd := dot0 (x0 := x0) (x1 := x1) (x2 := x2) (x3 := x3)
  have e3 : ∀ j c, View.ld x3 r0_3 (ix4 0 0 j c) = x3 (ix4 0 0 j c) := fun j c => by pointwise []
  have e4 : ∀ j c, View.ld x3 r0_4 (ix4 0 0 j c) = x3 (ix4 1 0 j c) := fun j c => by pointwise []
  unfold wts0
  generalize k0_pay122 x0 x1 x2 x3 = w at *
  generalize View.ld x3 r0_3 = b3 at *
  generalize View.ld x3 r0_4 = b4 at *
  pointwise [k0_pay9]
  rw [fold_max]
  refine congrArg Ideal.exp (congrArg₂ (fun a b : EReal => a - b) ?_ (Finset.sup_congr rfl fun k _ => ?_))
  all_goals
    rw [hd]
    simp only [e3, e4]
    exact (part_own x0 x1 x2 x3 0 ⟨k, by omega⟩ c (k := ⟨k, by omega⟩) (by simp)).trans
      (score_at (k := k) 0 0 _ c (by decide) (by simp))

/-- The weights of block 1's queries. -/
abbrev wts1 (x0 : Vec Ideal S1x128x2048 .bf16) (x1 : Vec Ideal S1x2048x128 .bf16) (x2 : Vec Ideal S1x128x2048 .bf16)
    (x3 : Vec Ideal S2x8x256x256 .f32) : FVec Ideal S512x512 .f32 :=
  k0_pay15 (k0_pay123 x0 x1 x2 x3) (View.ld x1 r0_7) (View.ld x3 r0_8) (View.ld x3 r0_9) (View.ld x3 r0_3) (View.ld x3 r0_4)

theorem dot1 (k : Fin 512) (c : Fin 512) :
    ∑ l : Fin 128, View.ld x1 r0_7 (ix3 0 k l) * k0_pay123 x0 x1 x2 x3 (ix2 l c)
      = dcol x0 x1 x2 x3 1 ⟨k, by omega⟩ c := by
  refine Finset.sum_congr rfl fun l _ => ?_
  pointwise [k0_pay123, k0_pay14]
  rfl

theorem weight1 (k : Fin 512) (c : Fin 512) :
    wts1 x0 x1 x2 x3 (ix2 k c)
      = Ideal.exp (score x0 x1 x2 x3 1 ⟨k.val / 256, by omega⟩ ⟨k.val % 256, by omega⟩ c
        - Finset.univ.sup fun k : Fin 512 => score x0 x1 x2 x3 1 ⟨k.val / 256, by omega⟩ ⟨k.val % 256, by omega⟩ c) := by
  have hd := dot1 (x0 := x0) (x1 := x1) (x2 := x2) (x3 := x3)
  have e3 : ∀ j c, View.ld x3 r0_3 (ix4 0 0 j c) = x3 (ix4 0 0 j c) := fun j c => by pointwise []
  have e4 : ∀ j c, View.ld x3 r0_4 (ix4 0 0 j c) = x3 (ix4 1 0 j c) := fun j c => by pointwise []
  have e8 : ∀ j c, View.ld x3 r0_8 (ix4 0 0 j c) = x3 (ix4 0 1 j c) := fun j c => by pointwise []
  have e9 : ∀ j c, View.ld x3 r0_9 (ix4 0 0 j c) = x3 (ix4 1 1 j c) := fun j c => by pointwise []
  unfold wts1
  generalize k0_pay123 x0 x1 x2 x3 = w at *
  generalize View.ld x1 r0_7 = kk at *
  generalize View.ld x3 r0_3 = b3 at *
  generalize View.ld x3 r0_4 = b4 at *
  generalize View.ld x3 r0_8 = b8 at *
  generalize View.ld x3 r0_9 = b9 at *
  pointwise [k0_pay15]
  rw [fold_max]
  refine congrArg Ideal.exp (congrArg₂ (fun a b : EReal => a - b) ?_ (Finset.sup_congr rfl fun k _ => ?_))
  all_goals
    refine dite_of (fun _ => ?_) fun _ => ?_
    · rw [hd]
      simp only [e8, e9]
      exact (part_small x0 x1 x2 x3 1 0 1 (by decide) (by decide) (by decide) ⟨k, by omega⟩ c (k := ⟨k, by omega⟩)
        (by simp)).trans (score_at (k := k) 1 0 _ c (by decide) (by simp))
    · rw [hd]
      simp only [e3, e4]
      exact (part_own x0 x1 x2 x3 1 ⟨k - 256, by omega⟩ c (k := ⟨256 + (k - 256), by omega⟩) (by simp)).trans
        (score_at (k := k) 1 1 _ c (by decide) (by simp; omega))

/-- The weights of block 2's queries. -/
abbrev wts2 (x0 : Vec Ideal S1x128x2048 .bf16) (x1 : Vec Ideal S1x2048x128 .bf16) (x2 : Vec Ideal S1x128x2048 .bf16)
    (x3 : Vec Ideal S2x8x256x256 .f32) : FVec Ideal S768x512 .f32 :=
  k0_pay24 (k0_pay124 x0 x1 x2 x3) (k0_pay125 x0 x1 x2 x3) (k0_pay126 x0 x1 x2 x3) (View.ld x3 r0_9) (View.ld x3 r0_3)
    (View.ld x3 r0_4)

theorem dot2 (k : Fin 768) (c : Fin 512) :
    k0_pay124 x0 x1 x2 x3 (ix2 k c) = dcol x0 x1 x2 x3 2 ⟨k, by omega⟩ c := by
  pointwise [k0_pay124, k0_pay21]
  rfl

theorem part2_0 (j : Fin 256) (c : Fin 512) : k0_pay125 x0 x1 x2 x3 (ix2 j c) = score x0 x1 x2 x3 2 0 j c := by
  pointwise [k0_pay125, k0_pay22, k0_pay21]
  exact part_small x0 x1 x2 x3 2 0 2 (by decide) (by decide) (by decide) j c (by simp)

set_option maxHeartbeats 2000000 in
theorem weight2 (k : Fin 768) (c : Fin 512) :
    wts2 x0 x1 x2 x3 (ix2 k c)
      = Ideal.exp (score x0 x1 x2 x3 2 ⟨k.val / 256, by omega⟩ ⟨k.val % 256, by omega⟩ c
        - Finset.univ.sup fun k : Fin 768 => score x0 x1 x2 x3 2 ⟨k.val / 256, by omega⟩ ⟨k.val % 256, by omega⟩ c) := by
  have h0 := part2_0 (x0 := x0) (x1 := x1) (x2 := x2) (x3 := x3)
  have hd := dot2 (x0 := x0) (x1 := x1) (x2 := x2) (x3 := x3)
  have hb : ∀ j c, k0_pay126 x0 x1 x2 x3 (ix2 j c) = x3 (ix4 0 1 j c) := fun j c => by
    pointwise [k0_pay126, k0_pay23]
  have e3 : ∀ j c, View.ld x3 r0_3 (ix4 0 0 j c) = x3 (ix4 0 0 j c) := fun j c => by pointwise []
  have e4 : ∀ j c, View.ld x3 r0_4 (ix4 0 0 j c) = x3 (ix4 1 0 j c) := fun j c => by pointwise []
  have e9 : ∀ j c, View.ld x3 r0_9 (ix4 0 0 j c) = x3 (ix4 1 1 j c) := fun j c => by pointwise []
  unfold wts2
  generalize View.ld x3 r0_3 = b3 at *
  generalize View.ld x3 r0_4 = b4 at *
  generalize View.ld x3 r0_9 = b9 at *
  generalize k0_pay124 x0 x1 x2 x3 = w at *
  generalize k0_pay125 x0 x1 x2 x3 = a0 at *
  generalize k0_pay126 x0 x1 x2 x3 = a1 at *
  pointwise [k0_pay24]
  rw [fold_max]
  refine congrArg Ideal.exp (congrArg₂ (fun a b : EReal => a - b) ?_ (Finset.sup_congr rfl fun k _ => ?_))
  all_goals
    refine dite_of (fun _ => ?_) fun _ => dite_of (fun _ => ?_) fun _ => ?_
    · rw [h0]; exact score_at 2 0 _ c (by decide) (by simp)
    · rw [hd]
      simp only [hb, e9]
      exact (part_small x0 x1 x2 x3 2 1 1 (by decide) (by decide) (by decide) ⟨k - 256, by omega⟩ c
        (k := ⟨256 + (k - 256), by omega⟩) (by simp)).trans (score_at (k := k) 2 1 _ c (by decide) (by simp; omega))
    · rw [hd]
      simp only [e3, e4]
      exact (part_own x0 x1 x2 x3 2 ⟨k - 256 - 256, by omega⟩ c (k := ⟨512 + (k - 256 - 256), by omega⟩) (by simp)).trans
        (score_at (k := k) 2 2 _ c (by decide) (by simp; omega))

/-- The weights of block 3's queries. -/
abbrev wts3 (x0 : Vec Ideal S1x128x2048 .bf16) (x1 : Vec Ideal S1x2048x128 .bf16) (x2 : Vec Ideal S1x128x2048 .bf16)
    (x3 : Vec Ideal S2x8x256x256 .f32) : FVec Ideal S1024x512 .f32 :=
  k0_pay35 (k0_pay127 x0 x1 x2 x3) (k0_pay128 x0 x1 x2 x3) (k0_pay129 x0 x1 x2 x3) (k0_pay130 x0 x1 x2 x3)
    (k0_pay131 x0 x1 x2 x3) (View.ld x3 r0_3) (View.ld x3 r0_4)

theorem dot3 (k : Fin 1024) (c : Fin 512) :
    k0_pay127 x0 x1 x2 x3 (ix2 k c) = dcol x0 x1 x2 x3 3 ⟨k, by omega⟩ c := by
  pointwise [k0_pay127, k0_pay30]
  rfl

theorem part3_0 (j : Fin 256) (c : Fin 512) : k0_pay128 x0 x1 x2 x3 (ix2 j c) = score x0 x1 x2 x3 3 0 j c := by
  pointwise [k0_pay128, k0_pay31, k0_pay30]
  exact part_small x0 x1 x2 x3 3 0 3 (by decide) (by decide) (by decide) j c (by simp)

theorem part3_1 (j : Fin 256) (c : Fin 512) : k0_pay129 x0 x1 x2 x3 (ix2 j c) = score x0 x1 x2 x3 3 1 j c := by
  pointwise [k0_pay129, k0_pay32, k0_pay30]
  exact part_small x0 x1 x2 x3 3 1 2 (by decide) (by decide) (by decide) j c (by simp)

theorem part3_2 (j : Fin 256) (c : Fin 512) :
    k0_pay131 x0 x1 x2 x3 (ix2 j c) + k0_pay130 x0 x1 x2 x3 (ix2 j c) = score x0 x1 x2 x3 3 2 j c := by
  pointwise [k0_pay130, k0_pay131, k0_pay33, k0_pay34, k0_pay30]
  exact part_small x0 x1 x2 x3 3 2 1 (by decide) (by decide) (by decide) j c (by simp)

set_option maxHeartbeats 2000000 in
theorem weight3 (k : Fin 1024) (c : Fin 512) :
    wts3 x0 x1 x2 x3 (ix2 k c)
      = Ideal.exp (score x0 x1 x2 x3 3 ⟨k.val / 256, by omega⟩ ⟨k.val % 256, by omega⟩ c
        - Finset.univ.sup fun k : Fin 1024 => score x0 x1 x2 x3 3 ⟨k.val / 256, by omega⟩ ⟨k.val % 256, by omega⟩ c) := by
  have h0 := part3_0 (x0 := x0) (x1 := x1) (x2 := x2) (x3 := x3)
  have h1 := part3_1 (x0 := x0) (x1 := x1) (x2 := x2) (x3 := x3)
  have h2 := part3_2 (x0 := x0) (x1 := x1) (x2 := x2) (x3 := x3)
  have hd := dot3 (x0 := x0) (x1 := x1) (x2 := x2) (x3 := x3)
  have e3 : ∀ j c, View.ld x3 r0_3 (ix4 0 0 j c) = x3 (ix4 0 0 j c) := fun j c => by pointwise []
  have e4 : ∀ j c, View.ld x3 r0_4 (ix4 0 0 j c) = x3 (ix4 1 0 j c) := fun j c => by pointwise []
  unfold wts3
  generalize View.ld x3 r0_3 = b3 at *
  generalize View.ld x3 r0_4 = b4 at *
  generalize k0_pay127 x0 x1 x2 x3 = w at *
  generalize k0_pay128 x0 x1 x2 x3 = a0 at *
  generalize k0_pay129 x0 x1 x2 x3 = a1 at *
  generalize k0_pay130 x0 x1 x2 x3 = a2 at *
  generalize k0_pay131 x0 x1 x2 x3 = a3 at *
  pointwise [k0_pay35]
  rw [fold_max]
  refine congrArg Ideal.exp (congrArg₂ (fun a b : EReal => a - b) ?_ (Finset.sup_congr rfl fun k _ => ?_))
  all_goals
    refine dite_of (fun _ => ?_) fun _ => dite_of (fun _ => ?_) fun _ => dite_of (fun _ => ?_) fun _ => ?_
    · rw [h0]; exact score_at 3 0 _ c (by decide) (by simp)
    · rw [h1]; exact score_at 3 1 _ c (by decide) (by simp; omega)
    · rw [h2]; exact score_at 3 2 _ c (by decide) (by simp; omega)
    · rw [hd]
      simp only [e3, e4]
      exact (part_own x0 x1 x2 x3 3 ⟨k - 256 - 256 - 256, by omega⟩ c
        (k := ⟨768 + (k - 256 - 256 - 256), by omega⟩) (by simp)).trans
        (score_at (k := k) 3 3 _ c (by decide) (by simp; omega))

end Cert.KernelIdeal.Moba
-- ==== Proof.Weights2.lean ====
module
public import proofs.«01_k».proof.Proof.Score
public import proofs.«01_k».proof.Proof.Tail
@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.Moba

namespace Cert.KernelIdeal.Moba
variable {x0 : Vec Ideal S1x128x2048 .bf16} {x1 : Vec Ideal S1x2048x128 .bf16} {x2 : Vec Ideal S1x128x2048 .bf16}
  {x3 : Vec Ideal S2x8x256x256 .f32}

/-- The weights of block 4's queries. -/
abbrev wts4 (x0 : Vec Ideal S1x128x2048 .bf16) (x1 : Vec Ideal S1x2048x128 .bf16) (x2 : Vec Ideal S1x128x2048 .bf16)
    (x3 : Vec Ideal S2x8x256x256 .f32) : FVec Ideal S1280x512 .f32 :=
  k0_pay50 (k0_pay132 x0 x1 x2 x3) (k0_pay138 x0 x1 x2 x3) (k0_pay139 x0 x1 x2 x3) (k0_pay140 x0 x1 x2 x3)
    (View.ld x3 r0_15) (View.ld x3 r0_16) (View.ld x3 r0_8) (View.ld x3 r0_9) (View.ld x3 r0_3) (View.ld x3 r0_4)

theorem gcol4 (n : Fin 8) (c : Fin 512) :
    k0_pay42 (k0_pay119 x0 x1 x2 x3) (k0_pay121 x0 x1 x2 x3) (ix2 n c) = gcol x0 x1 x2 x3 4 c n := by
  pointwise [k0_pay42]
  rfl

theorem pen4 (n : Fin 8) (c : Fin 512) :
    k0_pay47 (k0_pay133 x0 x1 x2 x3) (k0_pay134 x0 x1 x2 x3) (k0_pay135 x0 x1 x2 x3) (k0_pay136 x0 x1 x2 x3)
        (k0_pay137 x0 x1 x2 x3) (ix2 n c)
      = if rank (gcol x0 x1 x2 x3 4 c) 4 n < 3 then 0 else ⊥ := by
  pointwise [k0_pay47, k0_pay133, k0_pay134, k0_pay135, k0_pay136, k0_pay137, k0_pay43, k0_pay44, k0_pay45, k0_pay46,
    k0_pay117]
  simp only [gcol4, dite_eq_ite, ite_self]
  simp (disch := decide) only [vote_eq]
  have h := penalty_eq 4 (by decide) (gcol x0 x1 x2 x3 4 c) n
  rw [Fin.sum_univ_four] at h
  exact h

theorem dot4 (k : Fin 1280) (c : Fin 512) :
    k0_pay132 x0 x1 x2 x3 (ix2 k c) = dcol x0 x1 x2 x3 4 ⟨k, by omega⟩ c := by
  pointwise [k0_pay132, k0_pay41]
  rfl

theorem part4_0 (j : Fin 256) (c : Fin 512) : k0_pay139 x0 x1 x2 x3 (ix2 j c) = score x0 x1 x2 x3 4 0 j c := by
  pointwise [k0_pay139, k0_pay48]
  rw [pen4, dot4]
  exact part_past x0 x1 x2 x3 4 0 4 (by decide) (by decide) j c (by simp)

theorem part4_1 (j : Fin 256) (c : Fin 512) : k0_pay140 x0 x1 x2 x3 (ix2 j c) = score x0 x1 x2 x3 4 1 j c := by
  pointwise [k0_pay140, k0_pay49]
  rw [pen4, dot4]
  exact part_past x0 x1 x2 x3 4 1 3 (by decide) (by decide) j c (by simp)

set_option maxHeartbeats 2000000 in
theorem weight4 (k : Fin 1280) (c : Fin 512) :
    wts4 x0 x1 x2 x3 (ix2 k c)
      = Ideal.exp (score x0 x1 x2 x3 4 ⟨k.val / 256, by omega⟩ ⟨k.val % 256, by omega⟩ c
        - Finset.univ.sup fun k : Fin 1280 => score x0 x1 x2 x3 4 ⟨k.val / 256, by omega⟩ ⟨k.val % 256, by omega⟩ c) := by
  have h0 := part4_0 (x0 := x0) (x1 := x1) (x2 := x2) (x3 := x3)
  have h1 := part4_1 (x0 := x0) (x1 := x1) (x2 := x2) (x3 := x3)
  have hd := dot4 (x0 := x0) (x1 := x1) (x2 := x2) (x3 := x3)
  have hp : ∀ n c, k0_pay138 x0 x1 x2 x3 (ix2 n c) = if rank (gcol x0 x1 x2 x3 4 c) 4 n < 3 then 0 else ⊥ :=
    pen4 (x0 := x0) (x1 := x1) (x2 := x2) (x3 := x3)
  have e3 : ∀ j c, View.ld x3 r0_3 (ix4 0 0 j c) = x3 (ix4 0 0 j c) := fun j c => by pointwise []
  have e4 : ∀ j c, View.ld x3 r0_4 (ix4 0 0 j c) = x3 (ix4 1 0 j c) := fun j c => by pointwise []
  have e8 : ∀ j c, View.ld x3 r0_8 (ix4 0 0 j c) = x3 (ix4 0 1 j c) := fun j c => by pointwise []
  have e9 : ∀ j c, View.ld x3 r0_9 (ix4 0 0 j c) = x3 (ix4 1 1 j c) := fun j c => by pointwise []
  have e15 : ∀ j c, View.ld x3 r0_15 (ix4 0 0 j c) = x3 (ix4 0 2 j c) := fun j c => by pointwise []
  have e16 : ∀ j c, View.ld x3 r0_16 (ix4 0 0 j c) = x3 (ix4 1 2 j c) := fun j c => by pointwise []
  unfold wts4
  generalize k0_pay132 x0 x1 x2 x3 = w at *
  generalize k0_pay138 x0 x1 x2 x3 = p at *
  generalize k0_pay139 x0 x1 x2 x3 = a0 at *
  generalize k0_pay140 x0 x1 x2 x3 = a1 at *
  generalize View.ld x3 r0_3 = b3 at *
  generalize View.ld x3 r0_4 = b4 at *
  generalize View.ld x3 r0_8 = b8 at *
  generalize View.ld x3 r0_9 = b9 at *
  generalize View.ld x3 r0_15 = b15 at *
  generalize View.ld x3 r0_16 = b16 at *
  pointwise [k0_pay50]
  rw [fold_max]
  refine congrArg Ideal.exp (congrArg₂ (fun a b : EReal => a - b) ?_ (Finset.sup_congr rfl fun k _ => ?_))
  all_goals
    refine dite_of (fun _ => ?_) fun _ => dite_of (fun _ => ?_) fun _ => dite_of (fun _ => ?_) fun _ =>
      dite_of (fun _ => ?_) fun _ => ?_
    · rw [h0]; exact score_at 4 0 _ c (by decide) (by simp)
    · rw [h1]; exact score_at 4 1 _ c (by decide) (by simp; omega)
    · rw [hd, hp]
      simp only [e15, e16]
      exact (part_past x0 x1 x2 x3 4 2 2 (by decide) (by decide) ⟨k - 256 - 256, by omega⟩ c
        (k := ⟨512 + (k - 256 - 256), by omega⟩) (by simp)).trans
        (score_at (k := k) 4 2 _ c (by decide) (by simp; omega))
    · rw [hd, hp]
      simp only [e8, e9]
      exact (part_past x0 x1 x2 x3 4 3 1 (by decide) (by decide) ⟨k - 256 - 256 - 256, by omega⟩ c
        (k := ⟨768 + (k - 256 - 256 - 256), by omega⟩) (by simp)).trans
        (score_at (k := k) 4 3 _ c (by decide) (by simp; omega))
    · rw [hd]
      simp only [e3, e4]
      exact (part_own x0 x1 x2 x3 4 ⟨k - 256 - 256 - 256 - 256, by omega⟩ c
        (k := ⟨1024 + (k - 256 - 256 - 256 - 256), by omega⟩) (by simp)).trans
        (score_at (k := k) 4 4 _ c (by decide) (by simp; omega))

/-- The weights of block 5's queries. -/
abbrev wts5 (x0 : Vec Ideal S1x128x2048 .bf16) (x1 : Vec Ideal S1x2048x128 .bf16) (x2 : Vec Ideal S1x128x2048 .bf16)
    (x3 : Vec Ideal S2x8x256x256 .f32) : FVec Ideal S1536x512 .f32 :=
  k0_pay66 (k0_pay143 x0 x1 x2 x3) (k0_pay146 x0 x1 x2 x3) (k0_pay147 x0 x1 x2 x3) (k0_pay148 x0 x1 x2 x3)
    (k0_pay149 x0 x1 x2 x3)
    (View.ld x3 r0_15) (View.ld x3 r0_16) (View.ld x3 r0_8) (View.ld x3 r0_9) (View.ld x3 r0_3) (View.ld x3 r0_4)

theorem gcol5 (n : Fin 8) (c : Fin 512) :
    k0_pay56 (k0_pay119 x0 x1 x2 x3) (k0_pay121 x0 x1 x2 x3) (ix2 n c) = gcol x0 x1 x2 x3 5 c n := by
  pointwise [k0_pay56]
  rfl

theorem pen5 (n : Fin 8) (c : Fin 512) :
    k0_pay62 (k0_pay144 x0 x1 x2 x3) (Named.named κ "mask" 0xF149F2CA#32) (k0_pay145 x0 x1 x2 x3) (ix2 n c)
      = if rank (gcol x0 x1 x2 x3 5 c) 5 n < 3 then 0 else ⊥ := by
  pointwise [k0_pay62, k0_pay144, k0_pay145, k0_pay57, k0_pay58, k0_pay59, k0_pay60, k0_pay61, k0_pay117]
  simp only [gcol5, dite_eq_ite, ite_self]
  simp (disch := decide) only [vote_eq]
  have h := penalty_eq 5 (by decide) (gcol x0 x1 x2 x3 5 c) n
  rw [Fin.sum_univ_five] at h
  exact h

theorem dot5 (k : Fin 1536) (c : Fin 512) :
    k0_pay143 x0 x1 x2 x3 (ix2 k c) = dcol x0 x1 x2 x3 5 ⟨k, by omega⟩ c := by
  pointwise [k0_pay143, k0_pay55]
  rfl

theorem part5_0 (j : Fin 256) (c : Fin 512) : k0_pay147 x0 x1 x2 x3 (ix2 j c) = score x0 x1 x2 x3 5 0 j c := by
  pointwise [k0_pay147, k0_pay63]
  rw [pen5, dot5]
  exact part_past x0 x1 x2 x3 5 0 5 (by decide) (by decide) j c (by simp)

theorem part5_1 (j : Fin 256) (c : Fin 512) : k0_pay148 x0 x1 x2 x3 (ix2 j c) = score x0 x1 x2 x3 5 1 j c := by
  pointwise [k0_pay148, k0_pay64]
  rw [pen5, dot5]
  exact part_past x0 x1 x2 x3 5 1 4 (by decide) (by decide) j c (by simp)

theorem part5_2 (j : Fin 256) (c : Fin 512) : k0_pay149 x0 x1 x2 x3 (ix2 j c) = score x0 x1 x2 x3 5 2 j c := by
  pointwise [k0_pay149, k0_pay65]
  rw [pen5, dot5]
  exact part_past x0 x1 x2 x3 5 2 3 (by decide) (by decide) j c (by simp)

set_option maxHeartbeats 2000000 in
theorem weight5 (k : Fin 1536) (c : Fin 512) :
    wts5 x0 x1 x2 x3 (ix2 k c)
      = Ideal.exp (score x0 x1 x2 x3 5 ⟨k.val / 256, by omega⟩ ⟨k.val % 256, by omega⟩ c
        - Finset.univ.sup fun k : Fin 1536 => score x0 x1 x2 x3 5 ⟨k.val / 256, by omega⟩ ⟨k.val % 256, by omega⟩ c) := by
  have h0 := part5_0 (x0 := x0) (x1 := x1) (x2 := x2) (x3 := x3)
  have h1 := part5_1 (x0 := x0) (x1 := x1) (x2 := x2) (x3 := x3)
  have h2 := part5_2 (x0 := x0) (x1 := x1) (x2 := x2) (x3 := x3)
  have hd := dot5 (x0 := x0) (x1 := x1) (x2 := x2) (x3 := x3)
  have hp : ∀ n c, k0_pay146 x0 x1 x2 x3 (ix2 n c) = if rank (gcol x0 x1 x2 x3 5 c) 5 n < 3 then 0 else ⊥ :=
    pen5 (x0 := x0) (x1 := x1) (x2 := x2) (x3 := x3)
  have e3 : ∀ j c, View.ld x3 r0_3 (ix4 0 0 j c) = x3 (ix4 0 0 j c) := fun j c => by pointwise []
  have e4 : ∀ j c, View.ld x3 r0_4 (ix4 0 0 j c) = x3 (ix4 1 0 j c) := fun j c => by pointwise []
  have e8 : ∀ j c, View.ld x3 r0_8 (ix4 0 0 j c) = x3 (ix4 0 1 j c) := fun j c => by pointwise []
  have e9 : ∀ j c, View.ld x3 r0_9 (ix4 0 0 j c) = x3 (ix4 1 1 j c) := fun j c => by pointwise []
  have e15 : ∀ j c, View.ld x3 r0_15 (ix4 0 0 j c) = x3 (ix4 0 2 j c) := fun j c => by pointwise []
  have e16 : ∀ j c, View.ld x3 r0_16 (ix4 0 0 j c) = x3 (ix4 1 2 j c) := fun j c => by pointwise []
  unfold wts5
  generalize k0_pay143 x0 x1 x2 x3 = w at *
  generalize k0_pay146 x0 x1 x2 x3 = p at *
  generalize k0_pay147 x0 x1 x2 x3 = a0 at *
  generalize k0_pay148 x0 x1 x2 x3 = a1 at *
  generalize k0_pay149 x0 x1 x2 x3 = a2 at *
  generalize View.ld x3 r0_3 = b3 at *
  generalize View.ld x3 r0_4 = b4 at *
  generalize View.ld x3 r0_8 = b8 at *
  generalize View.ld x3 r0_9 = b9 at *
  generalize View.ld x3 r0_15 = b15 at *
  generalize View.ld x3 r0_16 = b16 at *
  pointwise [k0_pay66]
  rw [fold_max]
  refine congrArg Ideal.exp (congrArg₂ (fun a b : EReal => a - b) ?_ (Finset.sup_congr rfl fun k _ => ?_))
  all_goals
    refine dite_of (fun _ => ?_) fun _ => dite_of (fun _ => ?_) fun _ => dite_of (fun _ => ?_) fun _ =>
      dite_of (fun _ => ?_) fun _ => dite_of (fun _ => ?_) fun _ => ?_
    · rw [h0]; exact score_at 5 0 _ c (by decide) (by simp)
    · rw [h1]; exact score_at 5 1 _ c (by decide) (by simp; omega)
    · rw [h2]; exact score_at 5 2 _ c (by decide) (by simp; omega)
    · rw [hd, hp]
      simp only [e15, e16]
      exact (part_past x0 x1 x2 x3 5 3 2 (by decide) (by decide) ⟨k - 256 - 256 - 256, by omega⟩ c
        (k := ⟨768 + (k - 256 - 256 - 256), by omega⟩) (by simp)).trans
        (score_at (k := k) 5 3 _ c (by decide) (by simp; omega))
    · rw [hd, hp]
      simp only [e8, e9]
      exact (part_past x0 x1 x2 x3 5 4 1 (by decide) (by decide) ⟨k - 256 - 256 - 256 - 256, by omega⟩ c
        (k := ⟨1024 + (k - 256 - 256 - 256 - 256), by omega⟩) (by simp)).trans
        (score_at (k := k) 5 4 _ c (by decide) (by simp; omega))
    · rw [hd]
      simp only [e3, e4]
      exact (part_own x0 x1 x2 x3 5 ⟨k - 256 - 256 - 256 - 256 - 256, by omega⟩ c
        (k := ⟨1280 + (k - 256 - 256 - 256 - 256 - 256), by omega⟩) (by simp)).trans
        (score_at (k := k) 5 5 _ c (by decide) (by simp; omega))

end Cert.KernelIdeal.Moba
-- ==== Proof.Weights3.lean ====
module
public import proofs.«01_k».proof.Proof.Score
public import proofs.«01_k».proof.Proof.Tail
@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.Moba

namespace Cert.KernelIdeal.Moba
variable {x0 : Vec Ideal S1x128x2048 .bf16} {x1 : Vec Ideal S1x2048x128 .bf16} {x2 : Vec Ideal S1x128x2048 .bf16}
  {x3 : Vec Ideal S2x8x256x256 .f32}

theorem gcol7 (n : Fin 8) (c : Fin 512) :
    k0_pay96 (k0_pay119 x0 x1 x2 x3) (k0_pay121 x0 x1 x2 x3) (ix2 n c) = gcol x0 x1 x2 x3 7 c n := by
  pointwise [k0_pay96]
  rfl

theorem pen7 (n : Fin 8) (c : Fin 512) :
    k0_pay103 (k0_pay167 x0 x1 x2 x3) (k0_pay168 x0 x1 x2 x3) (k0_pay169 x0 x1 x2 x3) (ix2 n c)
      = if rank (gcol x0 x1 x2 x3 7 c) 7 n < 3 then 0 else ⊥ := by
  pointwise [k0_pay103, k0_pay167, k0_pay168, k0_pay169, k0_pay97, k0_pay98, k0_pay99, k0_pay100, k0_pay101, k0_pay102,
    k0_pay117]
  simp only [gcol7, dite_eq_ite, ite_self]
  simp (disch := decide) only [vote_eq]
  have h := penalty_eq 7 (by decide) (gcol x0 x1 x2 x3 7 c) n
  rw [Fin.sum_univ_seven] at h
  exact h

theorem dot7 (k : Fin 2048) (c : Fin 512) :
    k0_pay166 x0 x1 x2 x3 (ix2 k c) = dcol x0 x1 x2 x3 7 k c := by
  pointwise [k0_pay166, k0_pay95]
  rfl

theorem part7_0 (j : Fin 256) (c : Fin 512) : k0_pay171 x0 x1 x2 x3 (ix2 j c) = score x0 x1 x2 x3 7 0 j c := by
  pointwise [k0_pay171, k0_pay104]
  rw [pen7, dot7]
  exact part_past x0 x1 x2 x3 7 0 7 (by decide) (by decide) j c (by simp)

theorem part7_1 (j : Fin 256) (c : Fin 512) : k0_pay172 x0 x1 x2 x3 (ix2 j c) = score x0 x1 x2 x3 7 1 j c := by
  pointwise [k0_pay172, k0_pay105]
  rw [pen7, dot7]
  exact part_past x0 x1 x2 x3 7 1 6 (by decide) (by decide) j c (by simp)

theorem part7_2 (j : Fin 256) (c : Fin 512) : k0_pay173 x0 x1 x2 x3 (ix2 j c) = score x0 x1 x2 x3 7 2 j c := by
  pointwise [k0_pay173, k0_pay106]
  rw [pen7, dot7]
  exact part_past x0 x1 x2 x3 7 2 5 (by decide) (by decide) j c (by simp)

theorem part7_3 (j : Fin 256) (c : Fin 512) : k0_pay174 x0 x1 x2 x3 (ix2 j c) = score x0 x1 x2 x3 7 3 j c := by
  pointwise [k0_pay174, k0_pay107, k0_pay170]
  rw [pen7, dot7]
  exact part_past x0 x1 x2 x3 7 3 4 (by decide) (by decide) j c (by simp)

theorem part7_4 (j : Fin 256) (c : Fin 512) : k0_pay175 x0 x1 x2 x3 (ix2 j c) = score x0 x1 x2 x3 7 4 j c := by
  pointwise [k0_pay175, k0_pay108, k0_pay170]
  rw [pen7, dot7]
  exact part_past x0 x1 x2 x3 7 4 3 (by decide) (by decide) j c (by simp)

theorem part7_5 (j : Fin 256) (c : Fin 512) : k0_pay176 x0 x1 x2 x3 (ix2 j c) = score x0 x1 x2 x3 7 5 j c := by
  pointwise [k0_pay176, k0_pay109, k0_pay170]
  rw [pen7, dot7]
  exact part_past x0 x1 x2 x3 7 5 2 (by decide) (by decide) j c (by simp)

/-- The weights of block 7's queries. -/
abbrev wts7 (x0 : Vec Ideal S1x128x2048 .bf16) (x1 : Vec Ideal S1x2048x128 .bf16) (x2 : Vec Ideal S1x128x2048 .bf16)
    (x3 : Vec Ideal S2x8x256x256 .f32) : FVec Ideal S2048x512 .f32 :=
  k0_pay111 (k0_pay166 x0 x1 x2 x3) (k0_pay170 x0 x1 x2 x3) (k0_pay171 x0 x1 x2 x3) (k0_pay172 x0 x1 x2 x3)
    (k0_pay173 x0 x1 x2 x3) (k0_pay174 x0 x1 x2 x3) (k0_pay175 x0 x1 x2 x3) (k0_pay176 x0 x1 x2 x3)
    (k0_pay177 x0 x1 x2 x3) (View.ld x3 r0_9) (View.ld x3 r0_3) (View.ld x3 r0_4)

set_option maxHeartbeats 2000000 in
theorem weight7 (k : Fin 2048) (c : Fin 512) :
    wts7 x0 x1 x2 x3 (ix2 k c)
      = Ideal.exp (score x0 x1 x2 x3 7 ⟨k.val / 256, by omega⟩ ⟨k.val % 256, by omega⟩ c
        - Finset.univ.sup fun k : Fin 2048 => score x0 x1 x2 x3 7 ⟨k.val / 256, by omega⟩ ⟨k.val % 256, by omega⟩ c) := by
  have h0 := part7_0 (x0 := x0) (x1 := x1) (x2 := x2) (x3 := x3)
  have h1 := part7_1 (x0 := x0) (x1 := x1) (x2 := x2) (x3 := x3)
  have h2 := part7_2 (x0 := x0) (x1 := x1) (x2 := x2) (x3 := x3)
  have h3 := part7_3 (x0 := x0) (x1 := x1) (x2 := x2) (x3 := x3)
  have h4 := part7_4 (x0 := x0) (x1 := x1) (x2 := x2) (x3 := x3)
  have h5 := part7_5 (x0 := x0) (x1 := x1) (x2 := x2) (x3 := x3)
  have hd := dot7 (x0 := x0) (x1 := x1) (x2 := x2) (x3 := x3)
  have hp : ∀ n c, k0_pay170 x0 x1 x2 x3 (ix2 n c) = if rank (gcol x0 x1 x2 x3 7 c) 7 n < 3 then 0 else ⊥ :=
    pen7 (x0 := x0) (x1 := x1) (x2 := x2) (x3 := x3)
  have hb : ∀ j c, k0_pay177 x0 x1 x2 x3 (ix2 j c) = x3 (ix4 0 1 j c) := fun j c => by
    pointwise [k0_pay177, k0_pay110]
  have e3 : ∀ j c, View.ld x3 r0_3 (ix4 0 0 j c) = x3 (ix4 0 0 j c) := fun j c => by pointwise []
  have e4 : ∀ j c, View.ld x3 r0_4 (ix4 0 0 j c) = x3 (ix4 1 0 j c) := fun j c => by pointwise []
  have e9 : ∀ j c, View.ld x3 r0_9 (ix4 0 0 j c) = x3 (ix4 1 1 j c) := fun j c => by pointwise []
  unfold wts7
  generalize k0_pay166 x0 x1 x2 x3 = w at *
  generalize k0_pay170 x0 x1 x2 x3 = p at *
  generalize k0_pay171 x0 x1 x2 x3 = a0 at *
  generalize k0_pay172 x0 x1 x2 x3 = a1 at *
  generalize k0_pay173 x0 x1 x2 x3 = a2 at *
  generalize k0_pay174 x0 x1 x2 x3 = a3 at *
  generalize k0_pay175 x0 x1 x2 x3 = a4 at *
  generalize k0_pay176 x0 x1 x2 x3 = a5 at *
  generalize k0_pay177 x0 x1 x2 x3 = a6 at *
  generalize View.ld x3 r0_3 = b3 at *
  generalize View.ld x3 r0_4 = b4 at *
  generalize View.ld x3 r0_9 = b9 at *
  pointwise [k0_pay111]
  rw [fold_max]
  refine congrArg Ideal.exp (congrArg₂ (fun a b : EReal => a - b) ?_ (Finset.sup_congr rfl fun k _ => ?_))
  all_goals
    refine dite_of (fun _ => ?_) fun _ => dite_of (fun _ => ?_) fun _ => dite_of (fun _ => ?_) fun _ =>
      dite_of (fun _ => ?_) fun _ => dite_of (fun _ => ?_) fun _ => dite_of (fun _ => ?_) fun _ =>
      dite_of (fun _ => ?_) fun _ => ?_
    · rw [h0]; exact score_at 7 0 _ c (by decide) (by simp)
    · rw [h1]; exact score_at 7 1 _ c (by decide) (by simp; omega)
    · rw [h2]; exact score_at 7 2 _ c (by decide) (by simp; omega)
    · rw [h3]; exact score_at 7 3 _ c (by decide) (by simp; omega)
    · rw [h4]; exact score_at 7 4 _ c (by decide) (by simp; omega)
    · rw [h5]; exact score_at 7 5 _ c (by decide) (by simp; omega)
    · rw [hd, hp]
      simp only [hb, e9]
      exact (part_past x0 x1 x2 x3 7 6 1 (by decide) (by decide) ⟨k - 256 - 256 - 256 - 256 - 256 - 256, by omega⟩ c
        (k := ⟨1536 + (k - 256 - 256 - 256 - 256 - 256 - 256), by omega⟩) (by simp)).trans
        (score_at (k := k) 7 6 _ c (by decide) (by simp; omega))
    · rw [hd]
      simp only [e3, e4]
      exact (part_own x0 x1 x2 x3 7 ⟨k - 256 - 256 - 256 - 256 - 256 - 256 - 256, by omega⟩ c
        (k := ⟨1792 + (k - 256 - 256 - 256 - 256 - 256 - 256 - 256), by omega⟩) (by simp)).trans
        (score_at (k := k) 7 7 _ c (by decide) (by simp; omega))

end Cert.KernelIdeal.Moba
-- ==== Proof.Weights4.lean ====
module
public import proofs.«01_k».proof.Proof.Score
public import proofs.«01_k».proof.Proof.Tail
@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.Moba

namespace Cert.KernelIdeal.Moba
variable {x0 : Vec Ideal S1x128x2048 .bf16} {x1 : Vec Ideal S1x2048x128 .bf16} {x2 : Vec Ideal S1x128x2048 .bf16}
  {x3 : Vec Ideal S2x8x256x256 .f32}

/-- The weights of block 6's queries. -/
abbrev wts6 (x0 : Vec Ideal S1x128x2048 .bf16) (x1 : Vec Ideal S1x2048x128 .bf16) (x2 : Vec Ideal S1x128x2048 .bf16)
    (x3 : Vec Ideal S2x8x256x256 .f32) : FVec Ideal S1792x512 .f32 :=
  k0_pay89 (k0_pay152 x0 x1 x2 x3) (k0_pay158 x0 x1 x2 x3) (k0_pay159 x0 x1 x2 x3) (k0_pay160 x0 x1 x2 x3)
    (k0_pay161 x0 x1 x2 x3) (k0_pay162 x0 x1 x2 x3) (k0_pay163 x0 x1 x2 x3) (k0_pay164 x0 x1 x2 x3)
    (k0_pay165 x0 x1 x2 x3) (View.ld x3 r0_3) (View.ld x3 r0_4)

theorem gcol6 (n : Fin 8) (c : Fin 512) :
    k0_pay72 (k0_pay119 x0 x1 x2 x3) (k0_pay121 x0 x1 x2 x3) (ix2 n c) = gcol x0 x1 x2 x3 6 c n := by
  pointwise [k0_pay72]
  rfl

set_option maxHeartbeats 2000000 in
theorem pen6 (n : Fin 8) (c : Fin 512) :
    k0_pay80 (k0_pay154 x0 x1 x2 x3) (k0_pay155 x0 x1 x2 x3) (k0_pay156 x0 x1 x2 x3) (k0_pay157 x0 x1 x2 x3) (ix2 n c)
      = if rank (gcol x0 x1 x2 x3 6 c) 6 n < 3 then 0 else ⊥ := by
  pointwise [k0_pay80, k0_pay153, k0_pay154, k0_pay155, k0_pay156, k0_pay157, k0_pay73, k0_pay74, k0_pay75, k0_pay76,
    k0_pay77, k0_pay78, k0_pay79, k0_pay117]
  simp only [gcol6, dite_eq_ite, ite_self]
  simp (disch := decide) only [vote_eq]
  have h := penalty_eq 6 (by decide) (gcol x0 x1 x2 x3 6 c) n
  rw [Fin.sum_univ_six] at h
  exact h

theorem dot6 (k : Fin 1792) (c : Fin 512) :
    k0_pay152 x0 x1 x2 x3 (ix2 k c) = dcol x0 x1 x2 x3 6 ⟨k, by omega⟩ c := by
  pointwise [k0_pay152, k0_pay71]
  rfl

theorem part6_0 (j : Fin 256) (c : Fin 512) : k0_pay159 x0 x1 x2 x3 (ix2 j c) = score x0 x1 x2 x3 6 0 j c := by
  pointwise [k0_pay159, k0_pay81]
  rw [pen6, dot6]
  exact part_past x0 x1 x2 x3 6 0 6 (by decide) (by decide) j c (by simp)

theorem part6_1 (j : Fin 256) (c : Fin 512) : k0_pay160 x0 x1 x2 x3 (ix2 j c) = score x0 x1 x2 x3 6 1 j c := by
  pointwise [k0_pay160, k0_pay82]
  rw [pen6, dot6]
  exact part_past x0 x1 x2 x3 6 1 5 (by decide) (by decide) j c (by simp)

theorem part6_2 (j : Fin 256) (c : Fin 512) : k0_pay161 x0 x1 x2 x3 (ix2 j c) = score x0 x1 x2 x3 6 2 j c := by
  pointwise [k0_pay161, k0_pay84, k0_pay83, k0_pay158]
  rw [pen6, dot6]
  exact part_past x0 x1 x2 x3 6 2 4 (by decide) (by decide) j c (by simp)

theorem part6_3 (j : Fin 256) (c : Fin 512) : k0_pay162 x0 x1 x2 x3 (ix2 j c) = score x0 x1 x2 x3 6 3 j c := by
  pointwise [k0_pay162, k0_pay85, k0_pay158]
  rw [pen6, dot6]
  exact part_past x0 x1 x2 x3 6 3 3 (by decide) (by decide) j c (by simp)

theorem part6_4 (j : Fin 256) (c : Fin 512) : k0_pay163 x0 x1 x2 x3 (ix2 j c) = score x0 x1 x2 x3 6 4 j c := by
  pointwise [k0_pay163, k0_pay86, k0_pay158]
  rw [pen6, dot6]
  exact part_past x0 x1 x2 x3 6 4 2 (by decide) (by decide) j c (by simp)

theorem part6_5 (j : Fin 256) (c : Fin 512) :
    k0_pay165 x0 x1 x2 x3 (ix2 j c) + k0_pay164 x0 x1 x2 x3 (ix2 j c) + k0_pay158 x0 x1 x2 x3 (ix2 5 c)
      = score x0 x1 x2 x3 6 5 j c := by
  pointwise [k0_pay165, k0_pay164, k0_pay87, k0_pay88, k0_pay158]
  rw [pen6, dot6]
  exact part_past x0 x1 x2 x3 6 5 1 (by decide) (by decide) j c (by simp)

set_option maxHeartbeats 2000000 in
theorem weight6 (k : Fin 1792) (c : Fin 512) :
    wts6 x0 x1 x2 x3 (ix2 k c)
      = Ideal.exp (score x0 x1 x2 x3 6 ⟨k.val / 256, by omega⟩ ⟨k.val % 256, by omega⟩ c
        - Finset.univ.sup fun k : Fin 1792 => score x0 x1 x2 x3 6 ⟨k.val / 256, by omega⟩ ⟨k.val % 256, by omega⟩ c) := by
  have h0 := part6_0 (x0 := x0) (x1 := x1) (x2 := x2) (x3 := x3)
  have h1 := part6_1 (x0 := x0) (x1 := x1) (x2 := x2) (x3 := x3)
  have h2 := part6_2 (x0 := x0) (x1 := x1) (x2 := x2) (x3 := x3)
  have h3 := part6_3 (x0 := x0) (x1 := x1) (x2 := x2) (x3 := x3)
  have h4 := part6_4 (x0 := x0) (x1 := x1) (x2 := x2) (x3 := x3)
  have h5 := part6_5 (x0 := x0) (x1 := x1) (x2 := x2) (x3 := x3)
  have hd := dot6 (x0 := x0) (x1 := x1) (x2 := x2) (x3 := x3)
  have e3 : ∀ j c, View.ld x3 r0_3 (ix4 0 0 j c) = x3 (ix4 0 0 j c) := fun j c => by pointwise []
  have e4 : ∀ j c, View.ld x3 r0_4 (ix4 0 0 j c) = x3 (ix4 1 0 j c) := fun j c => by pointwise []
  unfold wts6
  generalize k0_pay152 x0 x1 x2 x3 = w at *
  generalize k0_pay158 x0 x1 x2 x3 = p at *
  generalize k0_pay159 x0 x1 x2 x3 = a0 at *
  generalize k0_pay160 x0 x1 x2 x3 = a1 at *
  generalize k0_pay161 x0 x1 x2 x3 = a2 at *
  generalize k0_pay162 x0 x1 x2 x3 = a3 at *
  generalize k0_pay163 x0 x1 x2 x3 = a4 at *
  generalize k0_pay164 x0 x1 x2 x3 = a5 at *
  generalize k0_pay165 x0 x1 x2 x3 = a6 at *
  generalize View.ld x3 r0_3 = b3 at *
  generalize View.ld x3 r0_4 = b4 at *
  pointwise [k0_pay89]
  rw [fold_max]
  refine congrArg Ideal.exp (congrArg₂ (fun a b : EReal => a - b) ?_ (Finset.sup_congr rfl fun k _ => ?_))
  all_goals
    refine dite_of (fun _ => ?_) fun _ => dite_of (fun _ => ?_) fun _ => dite_of (fun _ => ?_) fun _ =>
      dite_of (fun _ => ?_) fun _ => dite_of (fun _ => ?_) fun _ => dite_of (fun _ => ?_) fun _ => ?_
    · rw [h0]; exact score_at 6 0 _ c (by decide) (by simp)
    · rw [h1]; exact score_at 6 1 _ c (by decide) (by simp; omega)
    · rw [h2]; exact score_at 6 2 _ c (by decide) (by simp; omega)
    · rw [h3]; exact score_at 6 3 _ c (by decide) (by simp; omega)
    · rw [h4]; exact score_at 6 4 _ c (by decide) (by simp; omega)
    · rw [h5]; exact score_at 6 5 _ c (by decide) (by simp; omega)
    · rw [hd]
      simp only [e3, e4]
      exact (part_own x0 x1 x2 x3 6 ⟨k - 256 - 256 - 256 - 256 - 256 - 256, by omega⟩ c
        (k := ⟨1536 + (k - 256 - 256 - 256 - 256 - 256 - 256), by omega⟩) (by simp)).trans
        (score_at (k := k) 6 6 _ c (by decide) (by simp; omega))

end Cert.KernelIdeal.Moba
-- ==== Proof.Tiles.lean ====
module
public import proofs.«01_k».proof.Proof.Score
public import proofs.«01_k».proof.Proof.Weights1
public import proofs.«01_k».proof.Proof.Weights2
public import proofs.«01_k».proof.Proof.Weights3
public import proofs.«01_k».proof.Proof.Weights4
@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.Moba

namespace Cert.KernelIdeal.Moba
variable (x0 : Vec Ideal S1x128x2048 .bf16) (x1 : Vec Ideal S1x2048x128 .bf16) (x2 : Vec Ideal S1x128x2048 .bf16)
  (x3 : Vec Ideal S2x8x256x256 .f32)

/-- The attention of query `q` of block `i` by head `e` of the slab, in lane `d`. -/
def tile (i : Fin 8) (e : Fin 2) (d : Fin 64) (q : Fin 256) : EReal :=
  att (fun n j => score x0 x1 x2 x3 i n j ⟨e.val * 256 + q.val, by omega⟩)
    (fun n j => x2 (ix3 0 ⟨e.val * 64 + d.val, by omega⟩ ⟨n.val * 256 + j.val, by omega⟩))

variable {x0 x1 x2 x3}

theorem head_lt (e : Fin 2) (q : Fin 256) : e.val * 256 + q.val < 512 := by omega

theorem tile_of (i : Fin 8) (e : Fin 2) (d : Fin 64) (q : Fin 256) {N : ℕ} (hN : N = (i.val + 1) * 256)
    {a w : Fin N → EReal} (c : Fin 512) (hc : c.val = e.val * 256 + q.val)
    (ha : ∀ x, a x = x2 (ix3 0 ⟨e.val * 64 + d.val, by omega⟩ ⟨x, by omega⟩))
    (hw : ∀ x, w x = Ideal.exp (score x0 x1 x2 x3 i ⟨x.val / 256, by omega⟩ ⟨x.val % 256, by omega⟩ c
      - Finset.univ.sup fun k : Fin N => score x0 x1 x2 x3 i ⟨k.val / 256, by omega⟩ ⟨k.val % 256, by omega⟩ c)) :
    Ideal.div (∑ x, a x * w x) (∑ x, w x) = tile x0 x1 x2 x3 i e d q := by
  subst hN
  obtain rfl : c = ⟨e.val * 256 + q.val, head_lt e q⟩ := Fin.ext hc
  refine tail_block (i.val + 1) (by omega) _ _ (fun n hn j => score_future i n (by omega) j _) (fun x => ?_) hw
  rw [ha]
  exact congrArg (fun s => x2 (ix3 0 _ s)) (Fin.ext (by simp only; omega))

theorem tile7_1 (d : Fin 64) (q : Fin 256) :
    k0_pay1 (k0_pay115 (k0_pay166 x0 x1 x2 x3) (k0_pay170 x0 x1 x2 x3) (k0_pay171 x0 x1 x2 x3) (k0_pay172 x0 x1 x2 x3)
      (k0_pay173 x0 x1 x2 x3) (k0_pay174 x0 x1 x2 x3) (k0_pay175 x0 x1 x2 x3) (k0_pay176 x0 x1 x2 x3)
      (k0_pay177 x0 x1 x2 x3) (View.ld x3 r0_9) (View.ld x3 r0_3) (View.ld x3 r0_4) (View.ld x2 r0_53))
      (k0_pay116 (k0_pay166 x0 x1 x2 x3) (k0_pay170 x0 x1 x2 x3) (k0_pay171 x0 x1 x2 x3) (k0_pay172 x0 x1 x2 x3)
      (k0_pay173 x0 x1 x2 x3) (k0_pay174 x0 x1 x2 x3) (k0_pay175 x0 x1 x2 x3) (k0_pay176 x0 x1 x2 x3)
      (k0_pay177 x0 x1 x2 x3) (View.ld x3 r0_9) (View.ld x3 r0_3) (View.ld x3 r0_4)) (ix3 0 d q)
      = tile x0 x1 x2 x3 7 1 d q := by
  pointwise [k0_pay1, k0_pay115, k0_pay116, k0_pay112, k0_pay113]
  exact tile_of 7 1 d q rfl ⟨256 + q, by omega⟩ (by simp) (fun x => rfl) (fun x => weight7 x _)

theorem tile7_0 (d : Fin 64) (q : Fin 256) :
    k0_pay114 (k0_pay166 x0 x1 x2 x3) (k0_pay170 x0 x1 x2 x3) (k0_pay171 x0 x1 x2 x3) (k0_pay172 x0 x1 x2 x3)
      (k0_pay173 x0 x1 x2 x3) (k0_pay174 x0 x1 x2 x3) (k0_pay175 x0 x1 x2 x3) (k0_pay176 x0 x1 x2 x3)
      (k0_pay177 x0 x1 x2 x3) (View.ld x3 r0_9) (View.ld x3 r0_3) (View.ld x3 r0_4) (View.ld x2 r0_51) (ix3 0 d q)
      = tile x0 x1 x2 x3 7 0 d q := by
  pointwise [k0_pay114, k0_pay112, k0_pay113]
  exact tile_of 7 0 d q rfl ⟨q, by omega⟩ (by simp) (fun x => by simp) (fun x => weight7 x _)

theorem tile6_1 (d : Fin 64) (q : Fin 256) :
    k0_pay94 (k0_pay93 (k0_pay152 x0 x1 x2 x3) (k0_pay158 x0 x1 x2 x3) (k0_pay159 x0 x1 x2 x3) (k0_pay160 x0 x1 x2 x3)
      (k0_pay161 x0 x1 x2 x3) (k0_pay162 x0 x1 x2 x3) (k0_pay163 x0 x1 x2 x3) (k0_pay164 x0 x1 x2 x3)
      (k0_pay165 x0 x1 x2 x3) (View.ld x3 r0_3) (View.ld x3 r0_4) (View.ld x2 r0_47)) (ix3 0 d q)
      = tile x0 x1 x2 x3 6 1 d q := by
  pointwise [k0_pay94, k0_pay93, k0_pay90, k0_pay91]
  exact tile_of 6 1 d q rfl ⟨256 + q, by omega⟩ (by simp) (fun x => rfl) (fun x => weight6 x _)

theorem tile6_0 (d : Fin 64) (q : Fin 256) :
    k0_pay92 (k0_pay152 x0 x1 x2 x3) (k0_pay158 x0 x1 x2 x3) (k0_pay159 x0 x1 x2 x3) (k0_pay160 x0 x1 x2 x3)
      (k0_pay161 x0 x1 x2 x3) (k0_pay162 x0 x1 x2 x3) (k0_pay163 x0 x1 x2 x3) (k0_pay164 x0 x1 x2 x3)
      (k0_pay165 x0 x1 x2 x3) (View.ld x3 r0_3) (View.ld x3 r0_4) (View.ld x2 r0_45) (ix3 0 d q)
      = tile x0 x1 x2 x3 6 0 d q := by
  pointwise [k0_pay92, k0_pay90, k0_pay91]
  exact tile_of 6 0 d q rfl ⟨q, by omega⟩ (by simp) (fun x => by simp) (fun x => weight6 x _)

theorem tile5_1 (d : Fin 64) (q : Fin 256) :
    k0_pay70 (k0_pay150 x0 x1 x2 x3) (k0_pay151 x0 x1 x2 x3) (View.ld x2 r0_40) (ix3 0 d q)
      = tile x0 x1 x2 x3 5 1 d q := by
  pointwise [k0_pay70, k0_pay150, k0_pay151, k0_pay67, k0_pay68]
  exact tile_of 5 1 d q rfl ⟨256 + q, by omega⟩ (by simp) (fun x => rfl) (fun x => weight5 x _)

theorem tile5_0 (d : Fin 64) (q : Fin 256) :
    k0_pay69 (k0_pay150 x0 x1 x2 x3) (k0_pay151 x0 x1 x2 x3) (View.ld x2 r0_38) (ix3 0 d q)
      = tile x0 x1 x2 x3 5 0 d q := by
  pointwise [k0_pay69, k0_pay150, k0_pay151, k0_pay67, k0_pay68]
  exact tile_of 5 0 d q rfl ⟨q, by omega⟩ (by simp) (fun x => by simp) (fun x => weight5 x _)

theorem tile4_1 (d : Fin 64) (q : Fin 256) :
    k0_pay54 (k0_pay141 x0 x1 x2 x3) (k0_pay142 x0 x1 x2 x3) (View.ld x2 r0_33) (ix3 0 d q)
      = tile x0 x1 x2 x3 4 1 d q := by
  pointwise [k0_pay54, k0_pay141, k0_pay142, k0_pay51, k0_pay52]
  exact tile_of 4 1 d q rfl ⟨256 + q, by omega⟩ (by simp) (fun x => rfl) (fun x => weight4 x _)

theorem tile4_0 (d : Fin 64) (q : Fin 256) :
    k0_pay53 (k0_pay141 x0 x1 x2 x3) (k0_pay142 x0 x1 x2 x3) (View.ld x2 r0_31) (ix3 0 d q)
      = tile x0 x1 x2 x3 4 0 d q := by
  pointwise [k0_pay53, k0_pay141, k0_pay142, k0_pay51, k0_pay52]
  exact tile_of 4 0 d q rfl ⟨q, by omega⟩ (by simp) (fun x => by simp) (fun x => weight4 x _)

theorem tile3_1 (d : Fin 64) (q : Fin 256) :
    k0_pay40 (k0_pay39 (k0_pay127 x0 x1 x2 x3) (k0_pay128 x0 x1 x2 x3) (k0_pay129 x0 x1 x2 x3) (k0_pay130 x0 x1 x2 x3)
      (k0_pay131 x0 x1 x2 x3) (View.ld x3 r0_3) (View.ld x3 r0_4) (View.ld x2 r0_26)) (ix3 0 d q)
      = tile x0 x1 x2 x3 3 1 d q := by
  pointwise [k0_pay40, k0_pay39, k0_pay36, k0_pay37]
  exact tile_of 3 1 d q rfl ⟨256 + q, by omega⟩ (by simp) (fun x => rfl) (fun x => weight3 x _)

theorem tile3_0 (d : Fin 64) (q : Fin 256) :
    k0_pay38 (k0_pay127 x0 x1 x2 x3) (k0_pay128 x0 x1 x2 x3) (k0_pay129 x0 x1 x2 x3) (k0_pay130 x0 x1 x2 x3)
      (k0_pay131 x0 x1 x2 x3) (View.ld x3 r0_3) (View.ld x3 r0_4) (View.ld x2 r0_24) (ix3 0 d q)
      = tile x0 x1 x2 x3 3 0 d q := by
  pointwise [k0_pay38, k0_pay36, k0_pay37]
  exact tile_of 3 0 d q rfl ⟨q, by omega⟩ (by simp) (fun x => by simp) (fun x => weight3 x _)

theorem tile2_1 (d : Fin 64) (q : Fin 256) :
    k0_pay29 (k0_pay28 (k0_pay124 x0 x1 x2 x3) (k0_pay125 x0 x1 x2 x3) (k0_pay126 x0 x1 x2 x3) (View.ld x3 r0_9)
      (View.ld x3 r0_3) (View.ld x3 r0_4) (View.ld x2 r0_19)) (ix3 0 d q)
      = tile x0 x1 x2 x3 2 1 d q := by
  pointwise [k0_pay29, k0_pay28, k0_pay25, k0_pay26]
  exact tile_of 2 1 d q rfl ⟨256 + q, by omega⟩ (by simp) (fun x => rfl) (fun x => weight2 x _)

theorem tile2_0 (d : Fin 64) (q : Fin 256) :
    k0_pay27 (k0_pay124 x0 x1 x2 x3) (k0_pay125 x0 x1 x2 x3) (k0_pay126 x0 x1 x2 x3) (View.ld x3 r0_9)
      (View.ld x3 r0_3) (View.ld x3 r0_4) (View.ld x2 r0_17) (ix3 0 d q)
      = tile x0 x1 x2 x3 2 0 d q := by
  pointwise [k0_pay27, k0_pay25, k0_pay26]
  exact tile_of 2 0 d q rfl ⟨q, by omega⟩ (by simp) (fun x => by simp) (fun x => weight2 x _)

theorem tile1_1 (d : Fin 64) (q : Fin 256) :
    k0_pay20 (k0_pay16 (k0_pay123 x0 x1 x2 x3) (View.ld x1 r0_7) (View.ld x3 r0_8) (View.ld x3 r0_9) (View.ld x3 r0_3)
      (View.ld x3 r0_4)) (k0_pay17 (k0_pay123 x0 x1 x2 x3) (View.ld x1 r0_7) (View.ld x3 r0_8) (View.ld x3 r0_9)
      (View.ld x3 r0_3) (View.ld x3 r0_4)) (View.ld x2 r0_12) (ix3 0 d q)
      = tile x0 x1 x2 x3 1 1 d q := by
  pointwise [k0_pay20, k0_pay16, k0_pay17]
  exact tile_of 1 1 d q rfl ⟨256 + q, by omega⟩ (by simp) (fun x => rfl) (fun x => weight1 x _)

theorem tile1_0 (d : Fin 64) (q : Fin 256) :
    k0_pay19 (k0_pay18 (k0_pay123 x0 x1 x2 x3) (View.ld x1 r0_7) (View.ld x3 r0_8) (View.ld x3 r0_9) (View.ld x3 r0_3)
      (View.ld x3 r0_4) (View.ld x2 r0_10)) (ix3 0 d q)
      = tile x0 x1 x2 x3 1 0 d q := by
  pointwise [k0_pay19, k0_pay18, k0_pay16, k0_pay17]
  exact tile_of 1 0 d q rfl ⟨q, by omega⟩ (by simp) (fun x => by simp) (fun x => weight1 x _)

theorem tile0_1 (d : Fin 64) (q : Fin 256) :
    k0_pay13 (k0_pay122 x0 x1 x2 x3) (View.ld x3 r0_3) (View.ld x3 r0_4) (View.ld x2 r0_6) (ix3 0 d q)
      = tile x0 x1 x2 x3 0 1 d q := by
  pointwise [k0_pay13, k0_pay10, k0_pay11]
  exact tile_of 0 1 d q rfl ⟨256 + q, by omega⟩ (by simp) (fun x => rfl) (fun x => weight0 x _)

theorem tile0_0 (d : Fin 64) (q : Fin 256) :
    k0_pay12 (k0_pay122 x0 x1 x2 x3) (View.ld x3 r0_3) (View.ld x3 r0_4) (View.ld x2 r0_5) (ix3 0 d q)
      = tile x0 x1 x2 x3 0 0 d q := by
  pointwise [k0_pay12, k0_pay10, k0_pay11]
  exact tile_of 0 0 d q rfl ⟨q, by omega⟩ (by simp) (fun x => by simp) (fun x => weight0 x _)

/-- The block the kernel leaves, entry by entry. -/
theorem out_apply (d : Fin 128) (s : Fin 2048) :
    out0_4 x0 x1 x2 x3 (ix3 0 d s)
      = tile x0 x1 x2 x3 ⟨s.val / 256, by omega⟩ ⟨d.val / 64, by omega⟩ ⟨d.val % 64, by omega⟩ ⟨s.val % 256, by omega⟩ := by
  have tile_at : ∀ (i : Fin 8) (e : Fin 2) (d' : Fin 64) (q : Fin 256), d.val = e.val * 64 + d'.val →
      s.val = i.val * 256 + q.val → tile x0 x1 x2 x3 i e d' q
        = tile x0 x1 x2 x3 ⟨s.val / 256, by omega⟩ ⟨d.val / 64, by omega⟩ ⟨d.val % 64, by omega⟩ ⟨s.val % 256, by omega⟩ := by
    intro i e d' q hd hs
    congr 1 <;> refine Fin.ext ?_ <;> simp only <;> omega
  unfold out0_4
  canon_tiles x h
  all_goals
    obtain ⟨a, d', q, rfl⟩ : ∃ (a : Fin 1) (d' : Fin 64) (q : Fin 256), x = ix3 a d' q := ⟨_, _, _, eq_ix3 x⟩
    obtain rfl : a = 0 := Subsingleton.elim _ _
    simp only [ix3_1, ix3_2] at h1 h2
  · exact (tile7_1 d' q).trans (tile_at 7 1 d' q (by simp; omega) (by simp; omega))
  · exact (tile7_0 d' q).trans (tile_at 7 0 d' q (by simp; omega) (by simp; omega))
  · exact (tile6_1 d' q).trans (tile_at 6 1 d' q (by simp; omega) (by simp; omega))
  · exact (tile6_0 d' q).trans (tile_at 6 0 d' q (by simp; omega) (by simp; omega))
  · exact (tile5_1 d' q).trans (tile_at 5 1 d' q (by simp; omega) (by simp; omega))
  · exact (tile5_0 d' q).trans (tile_at 5 0 d' q (by simp; omega) (by simp; omega))
  · exact (tile4_1 d' q).trans (tile_at 4 1 d' q (by simp; omega) (by simp; omega))
  · exact (tile4_0 d' q).trans (tile_at 4 0 d' q (by simp; omega) (by simp; omega))
  · exact (tile3_1 d' q).trans (tile_at 3 1 d' q (by simp; omega) (by simp; omega))
  · exact (tile3_0 d' q).trans (tile_at 3 0 d' q (by simp; omega) (by simp; omega))
  · exact (tile2_1 d' q).trans (tile_at 2 1 d' q (by simp; omega) (by simp; omega))
  · exact (tile2_0 d' q).trans (tile_at 2 0 d' q (by simp; omega) (by simp; omega))
  · exact (tile1_1 d' q).trans (tile_at 1 1 d' q (by simp; omega) (by simp; omega))
  · exact (tile1_0 d' q).trans (tile_at 1 0 d' q (by simp; omega) (by simp; omega))
  · exact (tile0_1 d' q).trans (tile_at 0 1 d' q (by simp; omega) (by simp; omega))
  · exact (tile0_0 d' q).trans (tile_at 0 0 d' q (by simp; omega) (by simp; omega))

end Cert.KernelIdeal.Moba
-- ==== Proof.Heads.lean ====
module
public import proofs.«01_k».proof.Proof.Tiles
@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.Moba

namespace Cert.KernelIdeal.Moba
variable {x0 : Vec Ideal S1x128x2048 .bf16} {x1 : Vec Ideal S1x2048x128 .bf16} {x2 : Vec Ideal S1x128x2048 .bf16}
  {x3 : Vec Ideal S2x8x256x256 .f32}

theorem qpad0 (l : Fin 128) (s : Fin 2048) :
    k0_pay4 (View.ld x0 r0_0) (ix2 l s) = if l.val < 64 then x0 (ix3 0 l s) else 0 := by
  have hl : ∀ l : Fin 128, IntOp.andi (IntOp.cmpi CmpIPredicate.sge (BitVec.ofNat 32 l.val) 0#32)
      (IntOp.cmpi CmpIPredicate.slt (BitVec.ofNat 32 l.val) 64#32) = BitVec.ofBool (decide (l.val < 64)) := by decide
  pointwise [k0_pay4, k0_pay2, k0_pay3]
  rw [hl, Scalar.select_ofBool]
  simp only [decide_eq_true_eq]

theorem qpad1 (l : Fin 128) (s : Fin 2048) :
    k0_pay6 (View.ld x0 r0_0) (ix2 l s) = if 64 ≤ l.val then x0 (ix3 0 l s) else 0 := by
  have hl : ∀ l : Fin 128, IntOp.andi (IntOp.cmpi CmpIPredicate.sge (BitVec.ofNat 32 l.val) 64#32)
      (IntOp.cmpi CmpIPredicate.slt (BitVec.ofNat 32 l.val) 128#32) = BitVec.ofBool (decide (64 ≤ l.val)) := by decide
  pointwise [k0_pay6, k0_pay2, k0_pay3]
  rw [hl, Scalar.select_ofBool]
  simp only [decide_eq_true_eq]

theorem qrow0 (l : Fin 128) (s : Fin 2048) :
    k0_pay118 x0 x1 x2 x3 (ix2 l s) = if l.val < 64 then x0 (ix3 0 l s) else 0 := by
  unfold k0_pay118
  exact qpad0 l s

theorem qrow1 (l : Fin 128) (s : Fin 2048) :
    k0_pay120 x0 x1 x2 x3 (ix2 l s) = if 64 ≤ l.val then x0 (ix3 0 l s) else 0 := by
  unfold k0_pay120
  exact qpad1 l s

/-- The keys, queries, values and biases of head `e` of the slab. -/
def hK (x1 : Vec Ideal S1x2048x128 .bf16) (e : Fin 2) (k : Fin 2048) (d : Fin 64) : EReal :=
  x1 (ix3 0 k ⟨e.val * 64 + d.val, by omega⟩)
def hQ (x0 : Vec Ideal S1x128x2048 .bf16) (e : Fin 2) (d : Fin 64) (s : Fin 2048) : EReal :=
  x0 (ix3 0 ⟨e.val * 64 + d.val, by omega⟩ s)
def hB (x3 : Vec Ideal S2x8x256x256 .f32) (e : Fin 2) (δ : Fin 8) (j q : Fin 256) : EReal := x3 (ix4 e δ j q)

theorem gates0 (n : Fin 8) (s : Fin 2048) :
    k0_pay119 x0 x1 x2 x3 (ix2 n s) = hgate (hK x1 0) (hQ x0 0) s n := by
  pointwise [k0_pay119, k0_pay5, k0_pay3]
  simp only [qpad0]
  rw [sum_lanes0 (fun l => Ideal.div (∑ x : Fin 256, x1 (ix3 0 ⟨n.val * 256 + x.val, by omega⟩ l))
    (Ideal.ofBits FTy.f32 1132462080#32)) (fun l => x0 (ix3 0 l s))]
  unfold hgate hK hQ
  simp

theorem gates1 (n : Fin 8) (s : Fin 2048) :
    k0_pay121 x0 x1 x2 x3 (ix2 n s) = hgate (hK x1 1) (hQ x0 1) s n := by
  pointwise [k0_pay121, k0_pay7, k0_pay3]
  simp only [qpad1]
  rw [sum_lanes1 (fun l => Ideal.div (∑ x : Fin 256, x1 (ix3 0 ⟨n.val * 256 + x.val, by omega⟩ l))
    (Ideal.ofBits FTy.f32 1132462080#32)) (fun l => x0 (ix3 0 l s))]
  unfold hgate hK hQ
  simp

theorem gcol_eq (i : Fin 8) (e : Fin 2) (q : Fin 256) :
    gcol x0 x1 x2 x3 i ⟨e.val * 256 + q.val, by omega⟩
      = hgate (hK x1 e) (hQ x0 e) ⟨i.val * 256 + q.val, by omega⟩ := by
  funext n
  unfold gcol
  match e with
  | 0 =>
    rw [dif_pos (by simp), gates0]
    congr 2; simp
  | 1 =>
    rw [dif_neg (by simp), gates1]
    congr 2; simp

theorem dcol_eq (i : Fin 8) (e : Fin 2) (q : Fin 256) (k : Fin 2048) :
    dcol x0 x1 x2 x3 i k ⟨e.val * 256 + q.val, by omega⟩
      = ∑ d : Fin 64, hK x1 e k d * hQ x0 e d ⟨i.val * 256 + q.val, by omega⟩ := by
  unfold dcol qcol
  match e with
  | 0 =>
    have h : ((0 : Fin 2).val * 256 + q.val) < 256 := by simp
    simp only [dif_pos h, qrow0]
    refine (sum_lanes0 _ _).trans ?_
    unfold hK hQ
    simp
  | 1 =>
    have h : ¬ ((1 : Fin 2).val * 256 + q.val) < 256 := by simp
    simp only [dif_neg h, qrow1]
    refine (sum_lanes1 _ _).trans ?_
    unfold hK hQ
    simp

theorem bcol_eq (δ : Fin 8) (e : Fin 2) (q j : Fin 256) :
    bcol x3 δ j ⟨e.val * 256 + q.val, by omega⟩ = hB x3 e δ j q := by
  unfold bcol hB
  match e with
  | 0 =>
    rw [dif_pos (by simp)]
    congr 2; simp
  | 1 =>
    rw [dif_neg (by simp)]
    congr 2; simp

/-- The tile is one head's attention. -/
theorem tile_eq (i : Fin 8) (e : Fin 2) (d : Fin 64) (q : Fin 256) :
    tile x0 x1 x2 x3 i e d q = hout (hK x1 e) (hQ x0 e) (hQ x2 e) (hB x3 e) i q d := by
  unfold tile hout
  refine congrArg₂ att (funext fun n => funext fun j => ?_) rfl
  unfold score hscore raw hraw
  rw [gcol_eq, dcol_eq, bcol_eq]

end Cert.KernelIdeal.Moba
-- ==== Proof.Whole.lean ====
module
public import proofs.«01_k».proof.Proof.Heads
@[expose] public section

/-!
The kernel's whole result: lane `d` of head `h` at query `s` is that head's attention.
-/

set_option maxRecDepth 16384

noncomputable section

open Idealize.ShloMosaic Idealize.ShloMosaic.TcCoe Idealize.SL.Sem
open Idealize.ShloMosaic.Pipeline (Dat)
open Cert.KernelIdeal Cert.KernelIdeal.Gen Cert.Moba

namespace Cert.Moba
/-- The attention of batch `b` and head `h`, of the four arrays. -/
def moba (Q : Fin 8 → Fin 512 → Fin 2048 → EReal) (K : Fin 8 → Fin 2048 → Fin 512 → EReal)
    (V : Fin 8 → Fin 512 → Fin 2048 → EReal) (B : Fin 8 → Fin 8 → Fin 256 → Fin 256 → EReal)
    (b h : Fin 8) (i : Fin 8) (q : Fin 256) (d : Fin 64) : EReal :=
  hout (fun k d => K b k ⟨h.val * 64 + d.val, by omega⟩) (fun d s => Q b ⟨h.val * 64 + d.val, by omega⟩ s)
    (fun d s => V b ⟨h.val * 64 + d.val, by omega⟩ s) (B h) i q d
end Cert.Moba

namespace Cert.KernelIdeal.Moba

theorem idx : ∀ t : Fin cfg0.N,
    win0_0.index t 0 = t.val % 8 ∧ win0_0.index t 1 = t.val / 8 ∧ win0_0.index t 2 = 0 ∧
    win0_1.index t 0 = t.val % 8 ∧ win0_1.index t 1 = 0 ∧ win0_1.index t 2 = t.val / 8 ∧
    win0_2.index t 0 = t.val % 8 ∧ win0_2.index t 1 = t.val / 8 ∧ win0_2.index t 2 = 0 ∧
    win0_3.index t 0 = t.val / 8 ∧ win0_3.index t 1 = 0 ∧ win0_3.index t 2 = 0 ∧ win0_3.index t 3 = 0 ∧
    win0_4.index t 0 = t.val % 8 ∧ win0_4.index t 1 = t.val / 8 ∧ win0_4.index t 2 = 0 :=
  (by decide +kernel : ∀ t : Fin grid0.N, _)

theorem blk0 (m : (ℓ : Loc nD τ sig) → Buf (Elt Ideal) ℓ) (c : Dev nD) (t : Fin cfg0.N) (r : Fin 128) (s : Fin 2048) :
    iblk m c 0 t (ix3 0 r s) = m ((c.tc : Thread nD τ).loc main_arg0)
      (ix3 ⟨t.val % 8, by omega⟩ ⟨t.val / 8 * 128 + r.val, by have : t.val < 32 := t.isLt; omega⟩ s) := by
  blk_point [iblk, V, idx t]

theorem blk1 (m : (ℓ : Loc nD τ sig) → Buf (Elt Ideal) ℓ) (c : Dev nD) (t : Fin cfg0.N) (r : Fin 128) (s : Fin 2048) :
    iblk m c 1 t (ix3 0 s r) = m ((c.tc : Thread nD τ).loc main_arg1)
      (ix3 ⟨t.val % 8, by omega⟩ s ⟨t.val / 8 * 128 + r.val, by have : t.val < 32 := t.isLt; omega⟩) := by
  blk_point [iblk, V, idx t]

theorem blk2 (m : (ℓ : Loc nD τ sig) → Buf (Elt Ideal) ℓ) (c : Dev nD) (t : Fin cfg0.N) (r : Fin 128) (s : Fin 2048) :
    iblk m c 2 t (ix3 0 r s) = m ((c.tc : Thread nD τ).loc main_arg2)
      (ix3 ⟨t.val % 8, by omega⟩ ⟨t.val / 8 * 128 + r.val, by have : t.val < 32 := t.isLt; omega⟩ s) := by
  blk_point [iblk, V, idx t]

theorem blk3 (m : (ℓ : Loc nD τ sig) → Buf (Elt Ideal) ℓ) (c : Dev nD) (t : Fin cfg0.N) (e : Fin 2) (n : Fin 8) (j q : Fin 256) :
    iblk m c 3 t (ix4 e n j q) = m ((c.tc : Thread nD τ).loc main_arg3)
      (ix4 ⟨t.val / 8 * 2 + e.val, by have : t.val < 32 := t.isLt; omega⟩ n j q) := by
  blk_point [iblk, V, idx t]

/-- The kernel's result as an array of the four argument arrays. -/
def result (m : (ℓ : Loc nD τ sig) → Buf (Elt Ideal) ℓ) (c : Dev nD) (b : Fin 8) (r : Fin 512) (s : Fin 2048) : EReal :=
  moba (fun b r s => m ((c.tc : Thread nD τ).loc main_arg0) (ix3 b r s))
      (fun b s r => m ((c.tc : Thread nD τ).loc main_arg1) (ix3 b s r))
      (fun b r s => m ((c.tc : Thread nD τ).loc main_arg2) (ix3 b r s))
      (fun h n j q => m ((c.tc : Thread nD τ).loc main_arg3) (ix4 h n j q)) b ⟨r.val / 64, by omega⟩
      ⟨s.val / 256, by omega⟩ ⟨s.val % 256, by omega⟩ ⟨r.val % 64, by omega⟩

theorem point (m : (ℓ : Loc nD τ sig) → Buf (Elt Ideal) ℓ) (c : Dev nD) (t : Fin cfg0.N) (d : Fin 128) (s : Fin 2048) :
    out0_4 (iblk m c 0 t) (iblk m c 1 t) (iblk m c 2 t) (iblk m c 3 t) (ix3 0 d s)
      = result m c ⟨t.val % 8, by omega⟩ ⟨t.val / 8 * 128 + d.val, by have : t.val < 32 := t.isLt; omega⟩ s := by
  have ht : t.val < 32 := t.isLt
  rw [out_apply, tile_eq]
  unfold hK hQ hB result moba
  simp only [blk0, blk1, blk2, blk3]
  have h0 : ∀ x : Fin 64, (⟨t.val / 8 * 128 + (d.val / 64 * 64 + x.val), by omega⟩ : Fin 512)
      = ⟨(t.val / 8 * 128 + d.val) / 64 * 64 + x.val, by omega⟩ := fun x => Fin.ext (by dsimp only; omega)
  have h1 : (⟨t.val / 8 * 2 + d.val / 64, by omega⟩ : Fin 8) = ⟨(t.val / 8 * 128 + d.val) / 64, by omega⟩ :=
    Fin.ext (by dsimp only; omega)
  have h2 : (⟨d.val % 64, by omega⟩ : Fin 64) = ⟨(t.val / 8 * 128 + d.val) % 64, by omega⟩ := Fin.ext (by dsimp only; omega)
  simp only [h0, h1, h2]

theorem place (m : (ℓ : Loc nD τ sig) → Buf (Elt Ideal) ℓ) (c : Dev nD) (b b' : Fin 8) (r r' : Fin 512) (s s' : Fin 2048)
    (h0 : b.val = b'.val) (h1 : r.val = r'.val) (h2 : s.val = s'.val) : result m c b r s = result m c b' r' s' := by
  rw [Fin.ext h0, Fin.ext h1, Fin.ext h2]

theorem whole (m : (ℓ : Loc nD τ sig) → Buf (Elt Ideal) ℓ) (c : Dev nD) :
    (dats m 0 c).arrAt 4 cfg0.N = fun x => result m c (x 0) (x 1) (x 2) := by
  refine (dats m 0 c).arrAt_eq_of_covers 4 _ (by decide +kernel) fun t _ y => ?_
  blk_simp
  rw [after0_4]
  obtain ⟨a, d, s, rfl⟩ : ∃ (a : Fin 1) (d : Fin 128) (s : Fin 2048), y = ix3 a d s := ⟨_, _, _, eq_ix3 y⟩
  obtain rfl : a = 0 := Subsingleton.elim _ _
  refine (point m c t d s).trans ?_
  have i0 : win0_4.index t 0 = t.val % 8 := (idx t).2.2.2.2.2.2.2.2.2.2.2.2.2.1
  have i1 : win0_4.index t 1 = t.val / 8 := (idx t).2.2.2.2.2.2.2.2.2.2.2.2.2.2.1
  have i2 : win0_4.index t 2 = 0 := (idx t).2.2.2.2.2.2.2.2.2.2.2.2.2.2.2
  refine place m c _ _ _ _ _ _ ?_ ?_ ?_
  · blk_simp [i0]
    rfl
  · blk_simp [i1]
  · blk_simp [i2]
end Cert.KernelIdeal.Moba
-- ==== Proof.Select.lean ====
module
public import Idealize.ShloMosaic.Lib.SortFacts
public import proofs.«01_k».proof.Proof.Tail
@[expose] public section

/-!
The three best past blocks by a stable sort of the gates, and the attention over them and the query's own block as the
attention over all blocks with the others at minus infinity.
-/

noncomputable section

open Idealize.ShloMosaic

namespace Cert.Moba

/-- Block `a` comes before block `b`: a larger gate, or the same gate and a lower number. -/
def ahead (f : Fin 8 → EReal) (a b : Fin 8) : Prop := f b < f a ∨ f a = f b ∧ a < b

theorem ahead_irrefl (f : Fin 8 → EReal) (a : Fin 8) : ¬ ahead f a a := by
  rintro (h | ⟨_, h⟩) <;> exact lt_irrefl _ h

theorem ahead_asymm (f : Fin 8 → EReal) (a b : Fin 8) (h : ahead f a b) : ¬ ahead f b a := by
  rintro (h' | ⟨e', h'⟩) <;> rcases h with h | ⟨e, h⟩
  · exact lt_asymm h h'
  · exact absurd h' (by rw [e]; exact lt_irrefl _)
  · exact absurd h (by rw [e']; exact lt_irrefl _)
  · exact lt_asymm h h'

theorem insert_ahead (f : Fin 8 → EReal) (a : Fin 8) (l : List (Fin 8)) (hl : l.Pairwise (ahead f)) (ha : ∀ b ∈ l, a < b) :
    (insertBefore (fun x y => decide (f y < f x)) a l).Pairwise (ahead f) := by
  induction l with
  | nil => simp [insertBefore]
  | cons b l ih =>
    rw [List.pairwise_cons] at hl
    unfold insertBefore
    split_ifs with h
    · rw [List.pairwise_cons]
      refine ⟨fun x hx => ?_, ih hl.2 fun c hc => ha c (List.mem_cons_of_mem _ hc)⟩
      rcases List.mem_cons.1 ((perm_insertBefore _ a l).mem_iff.1 hx) with rfl | hx
      · exact Or.inl (by simpa using h)
      · exact hl.1 x hx
    · rw [List.pairwise_cons]
      have hle : f b ≤ f a := not_lt.1 (by simpa using h)
      refine ⟨fun x hx => ?_, List.pairwise_cons.2 hl⟩
      have hlt : a < x := ha x hx
      have hxb : f x ≤ f a := by
        rcases List.mem_cons.1 hx with rfl | hx
        · exact hle
        · rcases hl.1 x hx with h' | ⟨h', _⟩
          · exact h'.le.trans hle
          · exact h'.symm.le.trans hle
      rcases hxb.lt_or_eq with h' | h'
      · exact Or.inl h'
      · exact Or.inr ⟨h'.symm, hlt⟩

theorem sort_ahead (f : Fin 8 → EReal) (l : List (Fin 8)) (hl : l.Pairwise (· < ·)) :
    (stableSort (fun x y => decide (f y < f x)) l).Pairwise (ahead f) := by
  induction l with
  | nil => exact List.Pairwise.nil
  | cons a l ih =>
    rw [List.pairwise_cons] at hl
    unfold stableSort
    exact insert_ahead f a _ (ih hl.2) fun b hb => hl.1 b ((perm_stableSort _ l).mem_iff.1 hb)

/-- The block in place `k` when the blocks are sorted by their gates, the largest first. -/
def sel (f : Fin 8 → EReal) (k : Fin 8) : Fin 8 := sortedFrom (fun x y => decide (f y < f x)) k

theorem sel_ahead (f : Fin 8 → EReal) (a b : Fin 8) (h : a < b) : ahead f (sel f a) (sel f b) := by
  have hp := List.pairwise_iff_get.mp (sort_ahead f (List.finRange 8) (List.pairwise_lt_finRange 8))
  unfold sel sortedFrom
  exact hp _ _ h

theorem sel_inj (f : Fin 8 → EReal) : Function.Injective (sel f) := sortedFrom_injective _

theorem ahead_sel (f : Fin 8 → EReal) (a b : Fin 8) : ahead f (sel f a) (sel f b) ↔ a < b := by
  refine ⟨fun h => ?_, sel_ahead f a b⟩
  rcases lt_trichotomy a b with h' | rfl | h'
  · exact h'
  · exact absurd h (ahead_irrefl f _)
  · exact absurd h (ahead_asymm f _ _ (sel_ahead f b a h'))

open Classical in
/-- As many blocks come before a block as its place says. -/
theorem card_ahead (f : Fin 8 → EReal) (k : Fin 8) :
    ((Finset.univ : Finset (Fin 8)).filter fun m => ahead f m (sel f k)).card = k.val := by
  have h : ((Finset.univ : Finset (Fin 8)).filter fun m => ahead f m (sel f k))
      = ((Finset.univ : Finset (Fin 8)).filter fun a => a < k).image (sel f) := by
    ext m
    obtain ⟨a, rfl⟩ := sortedFrom_surjective (fun x y => decide (f y < f x)) m
    change sel f a ∈ _ ↔ sel f a ∈ _
    simp only [Finset.mem_filter, Finset.mem_univ, true_and, ahead_sel, Finset.mem_image]
    exact ⟨fun h => ⟨a, h, rfl⟩, fun ⟨b, hb, e⟩ => sel_inj f e ▸ hb⟩
  rw [h, Finset.card_image_of_injective _ (sel_inj f)]
  have : ∀ k : Fin 8, ((Finset.univ : Finset (Fin 8)).filter fun a => a < k).card = k.val := by decide
  convert this k

/-- The gates of the past blocks, the others at minus infinity. -/
def past (g : Fin 8 → EReal) (i n : Fin 8) : EReal := if n < i then g n else ⊥

theorem ahead_past (g : Fin 8 → EReal) (hg : ∀ n, ⊥ < g n) (i m n : Fin 8) (hn : n < i) :
    ahead (past g i) m n ↔ m < i ∧ (g n < g m ∨ g m = g n ∧ m < n) := by
  unfold ahead past
  rw [if_pos hn]
  by_cases hm : m < i
  · rw [if_pos hm]; exact ⟨fun h => ⟨hm, h⟩, fun h => h.2⟩
  · rw [if_neg hm]
    refine ⟨?_, fun h => absurd h.1 hm⟩
    rintro (h | ⟨h, _⟩)
    · exact absurd h not_lt_bot
    · exact absurd h (hg n).ne

theorem rank_sel (g : Fin 8 → EReal) (hg : ∀ n, ⊥ < g n) (i k : Fin 8) (h : sel (past g i) k < i) :
    rank g i (sel (past g i) k) = k.val := by
  classical
  rw [← card_ahead (past g i) k]
  unfold rank
  congr 1
  ext m
  simp only [Finset.mem_filter, Finset.mem_univ, true_and]
  exact (ahead_past g hg i m _ h).symm

theorem card_below : ∀ i : Fin 8, ((Finset.univ : Finset (Fin 8)).filter fun m => m < i).card = i.val := by decide

/-- The first places hold the past blocks. -/
theorem sel_lt (g : Fin 8 → EReal) (hg : ∀ n, ⊥ < g n) (i k : Fin 8) : sel (past g i) k < i ↔ k < i := by
  classical
  constructor
  · intro h
    rw [Fin.lt_def, ← rank_sel g hg i k h, ← card_below i]
    refine Finset.card_lt_card ⟨fun m hm => ?_, fun hs => ?_⟩
    · simp only [Finset.mem_filter, Finset.mem_univ, true_and] at hm ⊢
      exact hm.1
    · have := hs (Finset.mem_filter.2 ⟨Finset.mem_univ _, h⟩)
      simp only [Finset.mem_filter, Finset.mem_univ, true_and] at this
      rcases this.2 with h' | h' <;> exact lt_irrefl _ h'
  · intro h
    by_contra hn
    refine absurd h (not_lt.2 ?_)
    rw [Fin.le_def, ← card_ahead (past g i) k, ← card_below i]
    refine Finset.card_le_card fun m hm => ?_
    simp only [Finset.mem_filter, Finset.mem_univ, true_and] at hm ⊢
    refine Or.inl ?_
    have e1 : past g i (sel (past g i) k) = ⊥ := if_neg hn
    have e2 : past g i m = g m := if_pos hm
    rw [e1, e2]
    exact hg m

/-- A sum over all blocks to which the selected ones and the query's own alone contribute. -/
theorem sum_sel (g : Fin 8 → EReal) (hg : ∀ n, ⊥ < g n) (i : Fin 8) (F : Fin 8 → EReal)
    (hF : ∀ n, ¬ (n < i ∧ rank g i n < 3 ∨ n = i) → F n = 0) :
    ∑ n, F n = (∑ k : Fin 3, if k.val < i.val then F (sel (past g i) ⟨k.val, by omega⟩) else 0) + F i := by
  have h1 : ∑ n, F n = ∑ n, ((if n < i ∧ rank g i n < 3 then F n else 0) + if n = i then F n else 0) := by
    refine Finset.sum_congr rfl fun n _ => ?_
    by_cases hp : n < i ∧ rank g i n < 3
    · rw [if_pos hp, if_neg hp.1.ne, add_zero]
    · by_cases hi : n = i
      · rw [if_neg hp, if_pos hi, zero_add]
      · rw [if_neg hp, if_neg hi, add_zero]
        exact hF n fun h => h.elim hp hi
  rw [h1, Finset.sum_add_distrib, Finset.sum_ite_eq' Finset.univ i F, if_pos (Finset.mem_univ _), ← Finset.sum_filter,
    ← Finset.sum_filter]
  refine congrArg (· + F i) (Finset.sum_nbij (fun k : Fin 3 => sel (past g i) ⟨k.val, by omega⟩) (fun k hk => ?_)
    (fun a _ b _ h => ?_) (fun n hn => ?_) (fun _ _ => rfl)).symm
  · simp only [Finset.mem_filter, Finset.mem_univ, true_and] at hk ⊢
    have hlt : sel (past g i) ⟨k.val, by omega⟩ < i := (sel_lt g hg i _).2 hk
    exact ⟨hlt, by rw [rank_sel g hg i _ hlt]; exact k.isLt⟩
  · exact Fin.ext (congrArg Fin.val (sel_inj _ h) :)
  · simp only [Finset.coe_filter, Finset.mem_univ, true_and, Set.mem_setOf_eq] at hn
    obtain ⟨k, rfl⟩ : ∃ k, sel (past g i) k = n := sortedFrom_surjective _ n
    have hk := hn.2
    rw [rank_sel g hg i k hn.1] at hk
    exact ⟨⟨k.val, hk⟩, by simpa using (sel_lt g hg i k).1 hn.1, rfl⟩

theorem coe_sum' {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem sum_mul_real {ι : Type} (s : Finset ι) (f : ι → EReal) (c : EReal) (h0 : 0 ≤ c) (ht : c ≠ ⊤) :
    (∑ x ∈ s, f x) * c = ∑ x ∈ s, f x * c := by
  classical
  induction s using Finset.induction_on with
  | empty => simp
  | insert a s ha ih => rw [Finset.sum_insert ha, Finset.sum_insert ha, EReal.right_distrib_of_nonneg_of_ne_top h0 ht, ih]

/-- The scores' maximum is a real number when every score is below plus infinity and one is a real number. -/
theorem top_real (T : Fin 8 → Fin 256 → EReal) (hT : ∀ n j, T n j ≠ ⊤) (i : Fin 8) (hi : ∀ j, T i j ≠ ⊥) :
    ∃ m : ℝ, top T = m := by
  have h1 : top T < ⊤ := by
    unfold top
    rw [Finset.sup_lt_iff (bot_lt_top)]
    intro n _
    rw [Finset.sup_lt_iff (bot_lt_top)]
    exact fun j _ => lt_top_iff_ne_top.2 (hT n j)
  have h2 : T i 0 ≤ top T := le_trans (Finset.le_sup (f := fun j => T i j) (Finset.mem_univ 0))
    (Finset.le_sup (f := fun n => Finset.univ.sup fun j => T n j) (Finset.mem_univ i))
  have h3 : top T ≠ ⊥ := fun h => hi 0 (le_bot_iff.1 (h ▸ h2))
  exact ⟨(top T).toReal, (EReal.coe_toReal h1.ne h3).symm⟩

/-- The weights are real and their sum is positive. -/
theorem wt_real (T : Fin 8 → Fin 256 → EReal) (hT : ∀ n j, T n j ≠ ⊤) (i : Fin 8) (hi : ∀ j, T i j ≠ ⊥) :
    ∃ S : ℝ, 0 < S ∧ ∑ n, ∑ j, wt T n j = S := by
  obtain ⟨m, hm⟩ := top_real T hT i hi
  have hw : ∀ n j, ∃ r : ℝ, 0 ≤ r ∧ (n = i → 0 < r) ∧ wt T n j = r := by
    intro n j
    unfold wt
    by_cases hb : T n j = ⊥
    · refine ⟨0, le_rfl, fun h => absurd (h ▸ hb) (hi j), ?_⟩
      rw [hb, exp_bot_sub]; simp
    · obtain ⟨t, ht⟩ : ∃ t : ℝ, T n j = t := ⟨(T n j).toReal, (EReal.coe_toReal (hT n j) hb).symm⟩
      refine ⟨Real.exp (t - m), (Real.exp_pos _).le, fun _ => Real.exp_pos _, ?_⟩
      rw [ht, hm, ← EReal.coe_sub]
      rfl
  choose r h0 hpos hr using hw
  refine ⟨∑ n, ∑ j, r n j, ?_, ?_⟩
  · refine Finset.sum_pos' (fun n _ => Finset.sum_nonneg fun j _ => h0 n j) ⟨i, Finset.mem_univ _, ?_⟩
    exact Finset.sum_pos (fun j _ => hpos i j rfl) ⟨0, Finset.mem_univ _⟩
  · rw [coe_sum']
    refine Finset.sum_congr rfl fun n _ => ?_
    rw [coe_sum']
    exact Finset.sum_congr rfl fun j _ => hr n j

/-- A sum over 1024 keys: three blocks of 256 and one more. -/
theorem sum_1024 (f : Fin 1024 → EReal) :
    ∑ s, f s = ∑ k : Fin 3, ∑ j : Fin 256, f ⟨k.val * 256 + j.val, by omega⟩ + ∑ j : Fin 256, f ⟨768 + j.val, by omega⟩ := by
  have h1 : ∑ s, f s = ∑ s : Fin 768, f ⟨s.val, by omega⟩ + ∑ j : Fin 256, f ⟨768 + j.val, by omega⟩ :=
    Fin.sum_univ_add (a := 768) (b := 256) f
  rw [h1, ← Fintype.sum_prod_type' (f := fun (k : Fin 3) (j : Fin 256) => f ⟨k.val * 256 + j.val, by omega⟩)]
  refine congrArg (· + _) (Fintype.sum_equiv (finProdFinEquiv (m := 3) (n := 256)).symm _ _ fun x => ?_)
  refine congrArg f (Fin.ext ?_)
  show x.val = (x.val / 256) * 256 + x.val % 256
  omega

variable (g : Fin 8 → EReal) (i : Fin 8) (T : Fin 8 → Fin 256 → EReal) (L : Fin 1024 → EReal)

/-- The scores of the three selected blocks and the query's own, one after the other: `T`'s, and minus infinity in the
places that hold no past block. -/
structure Lists : Prop where
  sel : ∀ (k : Fin 3) (j : Fin 256), L ⟨k.val * 256 + j.val, by omega⟩
    = if k.val < i.val then T (sel (past g i) ⟨k.val, by omega⟩) j else ⊥
  own : ∀ j : Fin 256, L ⟨768 + j.val, by omega⟩ = T i j

variable {g i T L}

theorem Lists.sup (hL : Lists g i T L) (hg : ∀ n, ⊥ < g n)
    (hT : ∀ n, ¬ (n < i ∧ rank g i n < 3 ∨ n = i) → ∀ j, T n j = ⊥) : Finset.univ.sup L = top T := by
  have hle : ∀ n j, T n j ≤ top T := fun n j => le_trans (Finset.le_sup (f := fun j => T n j) (Finset.mem_univ j))
    (Finset.le_sup (f := fun n => Finset.univ.sup fun j => T n j) (Finset.mem_univ n))
  refine le_antisymm (Finset.sup_le fun s _ => ?_) (Finset.sup_le fun n _ => Finset.sup_le fun j _ => ?_)
  · by_cases hs : s.val < 768
    · have e := hL.sel ⟨s.val / 256, by omega⟩ ⟨s.val % 256, by omega⟩
      have es : (⟨(⟨s.val / 256, by omega⟩ : Fin 3).val * 256 + (⟨s.val % 256, by omega⟩ : Fin 256).val, by dsimp only; omega⟩ : Fin 1024) = s :=
        Fin.ext (by dsimp only; omega)
      rw [es] at e
      rw [e]
      split_ifs
      · exact hle _ _
      · exact bot_le
    · have e := hL.own ⟨s.val - 768, by omega⟩
      have es : (⟨768 + (⟨s.val - 768, by omega⟩ : Fin 256).val, by dsimp only; omega⟩ : Fin 1024) = s :=
        Fin.ext (by dsimp only; omega)
      rw [es] at e
      rw [e]
      exact hle _ _
  · by_cases hn : n < i ∧ rank g i n < 3 ∨ n = i
    · rcases hn with hn | rfl
      · obtain ⟨k, rfl⟩ : ∃ k, Cert.Moba.sel (past g i) k = n := sortedFrom_surjective _ n
        have hk := hn.2
        rw [rank_sel g hg i k hn.1] at hk
        have e := hL.sel ⟨k.val, hk⟩ j
        rw [if_pos (by simpa using (sel_lt g hg i k).1 hn.1)] at e
        exact e.symm.le.trans (Finset.le_sup (f := L) (Finset.mem_univ _))
      · exact (hL.own j).symm.le.trans (Finset.le_sup (f := L) (Finset.mem_univ _))
    · rw [hT n hn j]; exact bot_le

/-- The softmax over the listed scores, each weight normalized first, is the attention over all blocks. -/
theorem Lists.att (hL : Lists g i T L) (hg : ∀ n, ⊥ < g n)
    (hT : ∀ n, ¬ (n < i ∧ rank g i n < 3 ∨ n = i) → ∀ j, T n j = ⊥) (hfin : ∀ n j, T n j ≠ ⊤) (hown : ∀ j, T i j ≠ ⊥)
    (v : Fin 8 → Fin 256 → EReal) (u : Fin 3 → Fin 256 → EReal)
    (hu : ∀ k : Fin 3, k.val < i.val → u k = v (Cert.Moba.sel (past g i) ⟨k.val, by omega⟩)) :
    ∑ j : Fin 256, ∑ k : Fin 3, Ideal.div (Ideal.exp (L ⟨k.val * 256 + j.val, by omega⟩ - Finset.univ.sup L))
          (∑ s, Ideal.exp (L s - Finset.univ.sup L)) * u k j
      + ∑ j : Fin 256, Ideal.div (Ideal.exp (L ⟨768 + j.val, by omega⟩ - Finset.univ.sup L))
          (∑ s, Ideal.exp (L s - Finset.univ.sup L)) * v i j
      = Cert.Moba.att T v := by
  rw [hL.sup hg hT]
  have hw : ∀ n, ¬ (n < i ∧ rank g i n < 3 ∨ n = i) → ∀ j, wt T n j = 0 := fun n hn j => by
    unfold wt; rw [hT n hn j, exp_bot_sub]
  have e1 : ∀ (k : Fin 3) (j : Fin 256), Ideal.exp (L ⟨k.val * 256 + j.val, by omega⟩ - top T)
      = if k.val < i.val then wt T (Cert.Moba.sel (past g i) ⟨k.val, by omega⟩) j else 0 := fun k j => by
    rw [hL.sel k j]
    split_ifs
    · rfl
    · exact exp_bot_sub _
  have e2 : ∀ j : Fin 256, Ideal.exp (L ⟨768 + j.val, by omega⟩ - top T) = wt T i j := fun j => by
    rw [hL.own j]; rfl
  have hS : ∑ s, Ideal.exp (L s - top T) = ∑ n, ∑ j, wt T n j := by
    rw [sum_1024 fun s => Ideal.exp (L s - top T), sum_sel g hg i (fun n => ∑ j, wt T n j) fun n hn => Finset.sum_eq_zero fun j _ => hw n hn j]
    refine congrArg₂ (· + ·) (Finset.sum_congr rfl fun k _ => ?_) (Finset.sum_congr rfl fun j _ => e2 j)
    simp only [e1]
    split_ifs
    · rfl
    · exact Finset.sum_const_zero
  obtain ⟨S, hpos, hSr⟩ := wt_real T hfin i hown
  rw [hS]
  unfold Cert.Moba.att
  rw [hSr]
  have hS0 : (S : EReal) ≠ 0 := by exact_mod_cast hpos.ne'
  have hdiv : ∀ x : EReal, Ideal.div x S = x * (S : EReal)⁻¹ := fun x => by
    unfold Ideal.div; rw [if_neg hS0]
  have hc0 : (0 : EReal) ≤ (S : EReal)⁻¹ := by
    rw [← EReal.coe_inv]; exact_mod_cast (inv_pos.2 hpos).le
  have hct : (S : EReal)⁻¹ ≠ ⊤ := by
    rw [← EReal.coe_inv]; exact EReal.coe_ne_top _
  generalize (S : EReal)⁻¹ = c at hdiv hc0 hct
  simp only [hdiv, e1, e2]
  rw [Finset.sum_comm, sum_mul_real _ _ c hc0 hct,
    sum_sel g hg i (fun n => (∑ j, v n j * wt T n j) * c) fun n hn => by
      rw [Finset.sum_eq_zero fun j _ => by rw [hw n hn j, mul_zero], zero_mul]]
  refine congrArg₂ (· + ·) (Finset.sum_congr rfl fun k _ => ?_) ?_
  · split_ifs with hk
    · rw [sum_mul_real _ _ c hc0 hct, hu k hk]
      exact Finset.sum_congr rfl fun j _ => by ac_rfl
    · exact Finset.sum_eq_zero fun j _ => by rw [zero_mul, zero_mul]
  · rw [sum_mul_real _ _ c hc0 hct]
    exact Finset.sum_congr rfl fun j _ => by ac_rfl

end Cert.Moba
-- ==== Proof.RefRead.lean ====
module
public import proofs.«01_k».proof.Proof.Gen.ReferenceIdeal.Read
public import proofs.«01_k».proof.Proof.Select
@[expose] public section

/-!
The reference's stages at one index: the gates, the sorted blocks, the gathered keys, values and biases, and the two
sums of the softmax.
-/

set_option maxRecDepth 16384

noncomputable section

open Idealize.ShloMosaic Idealize.ShloMosaic.TcCoe Idealize.SL.Sem
open Cert.ReferenceIdeal Cert.ReferenceIdeal.Gen Cert.ReferenceIdeal.Read Cert.Moba

namespace Cert.ReferenceIdeal.Moba
variable {x0 : Vec Ideal S8x512x2048 .bf16} {x1 : Vec Ideal S8x2048x512 .bf16} {x2 : Vec Ideal S8x512x2048 .bf16}
  {x3 : Vec Ideal S8x8x256x256 .f32}

/-- The dimension numbers of the gathers of key and value blocks, and of bias rows. -/
abbrev gd := gather_S8x8x8x256x64_S8x8x8x256x3x3_S8x8x8x256x3x256x64_56_012_n_n_012_5_11125664
abbrev gb := gather_S8x8x256x256_S8x8x8x256x3x3_S8x8x8x256x3x256_5_012_n_n_012_5_111256

theorem gd_start (b h i : Fin 8) (q : Fin 256) (k : Fin 3) (j : Fin 256) (d : Fin 64) (r : Fin 3)
    (hr : r.val < gd.startIndexMap.length) : gd.siIdx (ix7 b h i q k j d) ⟨r.val, hr⟩ = ix6 b h i q k r := by
  funext a
  match a with
  | ⟨0, _⟩ => rfl
  | ⟨1, _⟩ => rfl
  | ⟨2, _⟩ => rfl
  | ⟨3, _⟩ => rfl
  | ⟨4, _⟩ => rfl
  | ⟨5, _⟩ => rfl

theorem gb_start (b h i : Fin 8) (q : Fin 256) (k : Fin 3) (j : Fin 256) (r : Fin 3)
    (hr : r.val < gb.startIndexMap.length) : gb.siIdx (ix6 b h i q k j) ⟨r.val, hr⟩ = ix6 b h i q k r := by
  funext a
  match a with
  | ⟨0, _⟩ => rfl
  | ⟨1, _⟩ => rfl
  | ⟨2, _⟩ => rfl
  | ⟨3, _⟩ => rfl
  | ⟨4, _⟩ => rfl
  | ⟨5, _⟩ => rfl

theorem gather_apply (x : FVec Ideal S8x8x8x256x64 .f32) (idx : IVec S8x8x8x256x3x3 32)
    (b h i : Fin 8) (q : Fin 256) (k : Fin 3) (j : Fin 256) (d : Fin 64) (b' h' n : Fin 8)
    (h0 : (idx (ix6 b h i q k 0)).toInt = b'.val) (h1 : (idx (ix6 b h i q k 1)).toInt = h'.val)
    (h2 : (idx (ix6 b h i q k 2)).toInt = n.val) :
    Host.gather gd x idx (ix7 b h i q k j d) = x (ix5 b' h' n j d) := by
  unfold Host.gather
  refine congrArg x (funext fun a => Fin.ext ?_)
  match a with
  | ⟨0, _⟩ =>
    show min (idx (gd.siIdx (ix7 b h i q k j d) ⟨(0 : Fin 3).val, by decide⟩)).toInt.toNat 7 + 0 + 0 = b'.val
    rw [gd_start, h0]; omega
  | ⟨1, _⟩ =>
    show min (idx (gd.siIdx (ix7 b h i q k j d) ⟨(1 : Fin 3).val, by decide⟩)).toInt.toNat 7 + 0 + 0 = h'.val
    rw [gd_start, h1]; omega
  | ⟨2, _⟩ =>
    show min (idx (gd.siIdx (ix7 b h i q k j d) ⟨(2 : Fin 3).val, by decide⟩)).toInt.toNat 7 + 0 + 0 = n.val
    rw [gd_start, h2]; omega
  | ⟨3, _⟩ => show 0 + 0 + j.val = j.val; omega
  | ⟨4, _⟩ => show 0 + 0 + d.val = d.val; omega

theorem bgather_apply (x : FVec Ideal S8x8x256x256 .f32) (idx : IVec S8x8x8x256x3x3 32)
    (b h i : Fin 8) (q : Fin 256) (k : Fin 3) (j : Fin 256) (h' n : Fin 8) (q' : Fin 256)
    (h0 : (idx (ix6 b h i q k 0)).toInt = h'.val) (h1 : (idx (ix6 b h i q k 1)).toInt = n.val)
    (h2 : (idx (ix6 b h i q k 2)).toInt = q'.val) :
    Host.gather gb x idx (ix6 b h i q k j) = x (ix4 h' n q' j) := by
  unfold Host.gather
  refine congrArg x (funext fun a => Fin.ext ?_)
  match a with
  | ⟨0, _⟩ =>
    show min (idx (gb.siIdx (ix6 b h i q k j) ⟨(0 : Fin 3).val, by decide⟩)).toInt.toNat 7 + 0 + 0 = h'.val
    rw [gb_start, h0]; omega
  | ⟨1, _⟩ =>
    show min (idx (gb.siIdx (ix6 b h i q k j) ⟨(1 : Fin 3).val, by decide⟩)).toInt.toNat 7 + 0 + 0 = n.val
    rw [gb_start, h1]; omega
  | ⟨2, _⟩ =>
    show min (idx (gb.siIdx (ix6 b h i q k j) ⟨(2 : Fin 3).val, by decide⟩)).toInt.toNat 255 + 0 + 0 = q'.val
    rw [gb_start, h2]; omega
  | ⟨3, _⟩ => show 0 + 0 + j.val = j.val; omega

theorem toInt_small (n : ℕ) (hn : n < 2 ^ 31) : (BitVec.ofNat 32 n).toInt = n := by
  rw [BitVec.toInt_eq_toNat_of_lt (by rw [BitVec.toNat_ofNat]; omega), BitVec.toNat_ofNat]; omega

theorem keys_apply (b h n : Fin 8) (j : Fin 256) (d : Fin 64) :
    val_main_v5 (F := Ideal) x1 (ix5 b h n j d) = x1 (ix3 b ⟨n.val * 256 + j.val, by omega⟩ ⟨h.val * 64 + d.val, by omega⟩) := by
  pointwise [val_main_v5, val_main_v4, val_main_v3]

theorem values_apply (b h n : Fin 8) (j : Fin 256) (d : Fin 64) :
    val_main_v8 (F := Ideal) x2 (ix5 b h n j d) = x2 (ix3 b ⟨h.val * 64 + d.val, by omega⟩ ⟨n.val * 256 + j.val, by omega⟩) := by
  pointwise [val_main_v8, val_main_v7, val_main_v6]

theorem queries_apply (b h n : Fin 8) (j : Fin 256) (d : Fin 64) :
    val_main_v2 (F := Ideal) x0 (ix5 b h n j d) = x0 (ix3 b ⟨h.val * 64 + d.val, by omega⟩ ⟨n.val * 256 + j.val, by omega⟩) := by
  pointwise [val_main_v2, val_main_v1, val_main_v0]

theorem bias_apply (h n : Fin 8) (q j : Fin 256) : val_main_v9 (F := Ideal) x3 (ix4 h n q j) = x3 (ix4 h n j q) := by
  pointwise [val_main_v9]

theorem result_apply (b : Fin 8) (r : Fin 512) (s : Fin 2048) :
    val_main_v89 (F := Ideal) x0 x1 x2 x3 (ix3 b r s) = val_main_v87 x0 x1 x2 x3
      (ix5 b ⟨r.val / 64, by omega⟩ ⟨s.val / 256, by omega⟩ ⟨s.val % 256, by omega⟩ ⟨r.val % 64, by omega⟩) := by
  unfold val_main_v89 val_main_v88
  generalize val_main_v87 x0 x1 x2 x3 = y
  pointwise

theorem gate_apply (b h i : Fin 8) (q : Fin 256) (n : Fin 8) :
    val_main_v22 (F := Ideal) x0 x1 (ix5 b h i q n)
      = past (hgate (fun k d => x1 (ix3 b k ⟨h.val * 64 + d.val, by omega⟩)) (fun d s => x0 (ix3 b ⟨h.val * 64 + d.val, by omega⟩ s))
          ⟨i.val * 256 + q.val, by omega⟩) i n := by
  pointwise [val_main_v22, val_main_call0_v1, val_main_call0_v2, val_main_call0_v0, val_main_cst_1, val_main_v21,
    val_main_v20, val_main_v19, val_main_v18, val_main_v17, val_main_v16, val_main_v15, val_main_v13, val_main_v14,
    val_main_v12, val_main_v11, val_main_v10, val_main_cst, val_main_cst_0, val_main_v5, val_main_v4, val_main_v3,
    val_main_v2, val_main_v1, val_main_v0]
  unfold past hgate
  have hc : ∀ n i : Fin 8, IntOp.cmpi CmpIPredicate.slt (BitVec.ofNat 32 n.val) (BitVec.ofNat 32 i.val)
      = BitVec.ofBool (decide (n < i)) := by decide
  rw [hc, Scalar.select_ofBool]
  simp only [decide_eq_true_eq]
  refine if_congr Iff.rfl (Finset.sum_congr rfl fun d _ => mul_comm _ _) ?_
  exact ofBits_neg_inf

theorem own_apply (b h i : Fin 8) (q j : Fin 256) :
    val_main_v68 (F := Ideal) x0 x1 x3 (ix5 b h i q j)
      = hraw (fun k d => x1 (ix3 b k ⟨h.val * 64 + d.val, by omega⟩)) (fun d s => x0 (ix3 b ⟨h.val * 64 + d.val, by omega⟩ s))
          (fun n j q => x3 (ix4 h n j q)) i q i j := by
  pointwise [val_main_v68, val_main_v67, val_main_v66, val_main_v65, val_main_v64, val_main_v63, val_main_v9, val_main_v5,
    val_main_v4, val_main_v3, val_main_v2, val_main_v1, val_main_v0]
  unfold hraw
  rw [sub_self]
  exact congrArg (· + _) (Finset.sum_congr rfl fun d _ => mul_comm _ _)

theorem scores_apply (b h i : Fin 8) (q : Fin 256) (k : Fin 3) (j : Fin 256) :
    val_main_v62 (F := Ideal) x0 x1 x3 (ix6 b h i q k j) = if k.val < i.val then
      ∑ x : Fin 64, val_main_v2 x0 (ix5 b h i q x) * val_main_v39 x0 x1 (ix7 b h i q k j x) + val_main_v59 x0 x1 x3 (ix6 b h i q k j)
      else ⊥ := by
  unfold val_main_v62 val_main_v60 val_main_v52
  generalize val_main_v2 x0 = Q
  generalize val_main_v39 x0 x1 = K
  generalize val_main_v59 x0 x1 x3 = B
  pointwise [val_main_call1_v1, val_main_call1_v2, val_main_call1_v0, val_main_cst_2, val_main_v61,
    val_main_v28, val_main_v27, val_main_v26, val_main_v25, val_main_v24, val_main_v23, val_main_v13]
  have hc : ∀ (k : Fin 3) (i : Fin 8), IntOp.cmpi CmpIPredicate.slt (BitVec.ofNat 32 k.val) (BitVec.ofNat 32 i.val)
      = BitVec.ofBool (decide (k.val < i.val)) := by decide
  rw [hc, Scalar.select_ofBool]
  simp only [decide_eq_true_eq]
  refine if_congr Iff.rfl rfl ?_
  exact ofBits_neg_inf

end Cert.ReferenceIdeal.Moba
-- ==== Proof.RefSoft.lean ====
module
public import proofs.«01_k».proof.Proof.Gen.ReferenceIdeal.Read
public import proofs.«01_k».proof.Proof.Select
@[expose] public section

/-!
The reference's softmax over the listed scores and its two sums, at one index.
-/

set_option maxRecDepth 16384

noncomputable section

open Idealize.ShloMosaic Idealize.ShloMosaic.TcCoe Idealize.SL.Sem
open Cert.ReferenceIdeal Cert.ReferenceIdeal.Gen Cert.ReferenceIdeal.Read Cert.Moba

namespace Cert.ReferenceIdeal.Moba
variable {x0 : Vec Ideal S8x512x2048 .bf16} {x1 : Vec Ideal S8x2048x512 .bf16} {x2 : Vec Ideal S8x512x2048 .bf16}
  {x3 : Vec Ideal S8x8x256x256 .f32}

theorem max_apply (b h i : Fin 8) (q : Fin 256) :
    val_main_v71 (F := Ideal) x0 x1 x3 (ix4 b h i q) = Finset.univ.sup fun s : Fin 1024 => val_main_v70 x0 x1 x3 (ix5 b h i q s) := by
  unfold val_main_v71
  generalize val_main_v70 x0 x1 x3 = L
  pointwise [val_main_cst_3]
  exact fold_max _ _

theorem exp_apply (b h i : Fin 8) (q : Fin 256) (s : Fin 1024) :
    val_main_v77 (F := Ideal) x0 x1 x3 (ix5 b h i q s)
      = Ideal.exp (val_main_v70 x0 x1 x3 (ix5 b h i q s) - val_main_v71 x0 x1 x3 (ix4 b h i q)) := by
  have e : val_main_v75 (F := Ideal) x0 x1 x3 (ix5 b h i q s) = val_main_v71 x0 x1 x3 (ix4 b h i q) := by
    rw [val_main_v75_apply, val_main_v74_apply, val_main_v73_apply, val_main_v72_apply, val_main_cst_4_apply]
    have hi : idx_main_v74 (idx_main_v75 (ix5 b h i q s)) = ix4 b h i q := by
      funext a
      match a with
      | ⟨0, _⟩ => rfl
      | ⟨1, _⟩ => rfl
      | ⟨2, _⟩ => rfl
      | ⟨3, _⟩ => rfl
    rw [hi]
    show max (Ideal.ofBits FTy.f32 4286578688#32) (val_main_v71 x0 x1 x3 (ix4 b h i q)) = _
    rw [ofBits_neg_inf]
    exact max_eq_right bot_le
  rw [val_main_v77_apply, val_main_v76_apply, e]
  rfl

theorem weight_apply (b h i : Fin 8) (q : Fin 256) (s : Fin 1024) :
    val_main_v81 (F := Ideal) x0 x1 x3 (ix5 b h i q s)
      = Ideal.div (val_main_v77 x0 x1 x3 (ix5 b h i q s)) (∑ s, val_main_v77 x0 x1 x3 (ix5 b h i q s)) := by
  unfold val_main_v81 val_main_v80 val_main_v79 val_main_v78
  generalize val_main_v77 x0 x1 x3 = L
  pointwise [val_main_cst_5]

theorem listed_apply (b h i : Fin 8) (q : Fin 256) (s : Fin 1024) :
    val_main_v70 (F := Ideal) x0 x1 x3 (ix5 b h i q s)
      = if h_1 : s.val < 768 then val_main_v62 x0 x1 x3 (ix6 b h i q ⟨s.val / 256, by omega⟩ ⟨s.val % 256, by omega⟩)
        else val_main_v68 x0 x1 x3 (ix5 b h i q ⟨s.val - 768, by omega⟩) := by
  unfold val_main_v70 val_main_v69
  generalize val_main_v62 x0 x1 x3 = A
  generalize val_main_v68 x0 x1 x3 = O
  pointwise

theorem past_apply (b h i : Fin 8) (q : Fin 256) (d : Fin 64) :
    val_main_v84 (F := Ideal) x0 x1 x2 x3 (ix5 b h i q d) = ∑ j : Fin 256, ∑ k : Fin 3,
      val_main_v81 x0 x1 x3 (ix5 b h i q ⟨k.val * 256 + j.val, by omega⟩) * val_main_v46 x0 x1 x2 (ix7 b h i q k j d) := by
  unfold val_main_v84 val_main_v83 val_main_v82
  generalize val_main_v81 x0 x1 x3 = P
  generalize val_main_v46 x0 x1 x2 = G
  pointwise

theorem present_apply (b h i : Fin 8) (q : Fin 256) (d : Fin 64) :
    val_main_v86 (F := Ideal) x0 x1 x2 x3 (ix5 b h i q d) = ∑ j : Fin 256,
      val_main_v81 x0 x1 x3 (ix5 b h i q ⟨768 + j.val, by omega⟩) * val_main_v8 x2 (ix5 b h i j d) := by
  unfold val_main_v86 val_main_v85
  generalize val_main_v81 x0 x1 x3 = P
  generalize val_main_v8 x2 = V
  pointwise

end Cert.ReferenceIdeal.Moba
-- ==== Proof.RefStarts.lean ====
module
public import proofs.«01_k».proof.Proof.Gen.ReferenceIdeal.Read
public import proofs.«01_k».proof.Proof.Select
@[expose] public section

/-!
The reference's sorted blocks and where its gathers start, at one index.
-/

set_option maxRecDepth 16384

noncomputable section

open Idealize.ShloMosaic Idealize.ShloMosaic.TcCoe Idealize.SL.Sem
open Cert.ReferenceIdeal Cert.ReferenceIdeal.Gen Cert.ReferenceIdeal.Read Cert.Moba

namespace Cert.ReferenceIdeal.Moba
variable {x0 : Vec Ideal S8x512x2048 .bf16} {x1 : Vec Ideal S8x2048x512 .bf16} {x2 : Vec Ideal S8x512x2048 .bf16}
  {x3 : Vec Ideal S8x8x256x256 .f32}

theorem topk_apply (y : FVec Ideal S8x8x8x256x8 .f32) (b h i : Fin 8) (q : Fin 256) (k : Fin 3) :
    (Host.topK S8x8x8x256x3 4 (FloatOps.cmpfTotal (F := Ideal) (φ := FTy.f32) CmpDirection.gt) y sliceFits_S8x8x8x256x8_S8x8x8x256x3).2 (ix5 b h i q k)
      = BitVec.ofNat 32 (sel (fun n => y (ix5 b h i q n)) ⟨k.val, by omega⟩).val := by
  have ha : ∀ n : Fin 8, (ix5 b h i q (⟨k.val, by omega⟩ : Fin 8) : S8x8x8x256x8.Idx).along 4 n = ix5 b h i q n := by
    intro n
    funext a
    match a with
    | ⟨0, _⟩ => rfl
    | ⟨1, _⟩ => rfl
    | ⟨2, _⟩ => rfl
    | ⟨3, _⟩ => rfl
    | ⟨4, _⟩ => rfl
  have hj : (fun a => ⟨0 + ((ix5 b h i q k : S8x8x8x256x3.Idx) (a.cast sliceFits_S8x8x8x256x8_S8x8x8x256x3.1.symm)).val,
      Nat.lt_of_lt_of_le (Nat.add_lt_add_left (Fin.isLt _) _) (sliceFits_S8x8x8x256x8_S8x8x8x256x3.2 a)⟩ : S8x8x8x256x8.Idx)
      = ix5 b h i q (⟨k.val, by omega⟩ : Fin 8) := by
    funext a
    match a with
    | ⟨0, _⟩ => exact Fin.ext (Nat.zero_add _)
    | ⟨1, _⟩ => exact Fin.ext (Nat.zero_add _)
    | ⟨2, _⟩ => exact Fin.ext (Nat.zero_add _)
    | ⟨3, _⟩ => exact Fin.ext (Nat.zero_add _)
    | ⟨4, _⟩ => exact Fin.ext (Nat.zero_add _)
  have hc : ∀ x z : EReal, (Ideal.cmp CmpDirection.gt.ordered x z == 1#1) = decide (z < x) := by
    intro x z
    show (BitVec.ofBool (decide (z < x)) == 1#1) = decide (z < x)
    cases decide (z < x) <;> rfl
  unfold Host.topK extractStridedSlice
  dsimp only
  rw [hj]
  unfold Host.sort2
  rw [dif_pos (by decide)]
  dsimp only
  rw [dif_pos (by decide)]
  have hs : (fun u w : Fin 8 => FloatOps.cmpfTotal (F := Ideal) (φ := FTy.f32) CmpDirection.gt
        (y ((ix5 b h i q (⟨k.val, by omega⟩ : Fin 8) : S8x8x8x256x8.Idx).along 4 u))
        (y ((ix5 b h i q (⟨k.val, by omega⟩ : Fin 8) : S8x8x8x256x8.Idx).along 4 w)) == 1#1)
      = fun u w => decide (y (ix5 b h i q w) < y (ix5 b h i q u)) := by
    funext u w
    rw [ha u, ha w]
    exact hc _ _
  show iotaInDim S8x8x8x256x8 32 4 ((ix5 b h i q (⟨k.val, by omega⟩ : Fin 8) : S8x8x8x256x8.Idx).along 4
    (sortedFrom (fun u w : Fin 8 => FloatOps.cmpfTotal (F := Ideal) (φ := FTy.f32) CmpDirection.gt
        (y ((ix5 b h i q (⟨k.val, by omega⟩ : Fin 8) : S8x8x8x256x8.Idx).along 4 u))
        (y ((ix5 b h i q (⟨k.val, by omega⟩ : Fin 8) : S8x8x8x256x8.Idx).along 4 w)) == 1#1) (⟨k.val, by omega⟩ : Fin 8))) = _
  rw [hs]
  exact congrArg (iotaInDim S8x8x8x256x8 32 4) (ha (sel (fun n => y (ix5 b h i q n)) ⟨k.val, by omega⟩))

theorem starts_k (b h i : Fin 8) (q : Fin 256) (k : Fin 3) :
    val_main_v38 (F := Ideal) x0 x1 (ix6 b h i q k 0) = BitVec.ofNat 32 b.val
      ∧ val_main_v38 (F := Ideal) x0 x1 (ix6 b h i q k 1) = BitVec.ofNat 32 h.val
      ∧ val_main_v38 (F := Ideal) x0 x1 (ix6 b h i q k 2) = val_main_indices x0 x1 (ix5 b h i q k) := by
  unfold val_main_v38 val_main_v37
  generalize val_main_indices x0 x1 = sel
  refine ⟨?_, ?_, ?_⟩
  all_goals
    pointwise [val_main_v35, val_main_v36, val_main_v34, val_main_v33, val_main_v32, val_main_v31, val_main_v30, val_main_v29]

theorem starts_v (b h i : Fin 8) (q : Fin 256) (k : Fin 3) :
    val_main_v45 (F := Ideal) x0 x1 (ix6 b h i q k 0) = BitVec.ofNat 32 b.val
      ∧ val_main_v45 (F := Ideal) x0 x1 (ix6 b h i q k 1) = BitVec.ofNat 32 h.val
      ∧ val_main_v45 (F := Ideal) x0 x1 (ix6 b h i q k 2) = val_main_indices x0 x1 (ix5 b h i q k) := by
  unfold val_main_v45 val_main_v44
  generalize val_main_indices x0 x1 = sel
  refine ⟨?_, ?_, ?_⟩
  all_goals
    pointwise [val_main_v42, val_main_v43, val_main_v41, val_main_v40, val_main_v32, val_main_v31, val_main_v30, val_main_v29]

theorem starts_b (b h i : Fin 8) (q : Fin 256) (k : Fin 3) :
    val_main_v58 (F := Ideal) x0 x1 (ix6 b h i q k 0) = BitVec.ofNat 32 h.val
      ∧ val_main_v58 (F := Ideal) x0 x1 (ix6 b h i q k 1) = IntOp.subi (BitVec.ofNat 32 i.val) (val_main_indices x0 x1 (ix5 b h i q k))
      ∧ val_main_v58 (F := Ideal) x0 x1 (ix6 b h i q k 2) = BitVec.ofNat 32 q.val := by
  unfold val_main_v58 val_main_v56 val_main_v49
  generalize val_main_indices x0 x1 = sel
  refine ⟨?_, ?_, ?_⟩
  all_goals
    pointwise [val_main_v57, val_main_v55, val_main_v54, val_main_v53, val_main_v51, val_main_v50, val_main_v48, val_main_v47,
      val_main_v32, val_main_v31, val_main_v13]

end Cert.ReferenceIdeal.Moba
-- ==== Proof.RefOut.lean ====
module
public import proofs.«01_k».proof.Proof.RefRead
public import proofs.«01_k».proof.Proof.RefSoft
public import proofs.«01_k».proof.Proof.RefStarts
@[expose] public section

/-!
The reference's result is each head's attention, for queries, keys and biases that are real numbers.
-/

set_option maxRecDepth 16384

noncomputable section

open Idealize.ShloMosaic Idealize.ShloMosaic.TcCoe Idealize.SL.Sem
open Cert.ReferenceIdeal Cert.ReferenceIdeal.Gen Cert.ReferenceIdeal.Read Cert.Moba

namespace Cert.Moba

/-- A real number. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} {s : Finset ι} {f : ι → EReal} (h : ∀ x, IsReal (f x)) : IsReal (∑ x ∈ s, f x) := by
  choose r hr using h
  exact ⟨∑ x ∈ s, r x, by rw [coe_sum']; exact Finset.sum_congr rfl fun x _ => hr x⟩

theorem IsReal.mean {x : EReal} (hx : IsReal x) : IsReal (Ideal.div x (Ideal.ofBits FTy.f32 1132462080#32)) := by
  rw [ofBits_256]
  unfold Ideal.div
  rw [if_neg (by norm_num)]
  exact hx.mul ⟨(256 : ℝ)⁻¹, (EReal.coe_inv 256).symm⟩

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

section real
variable {K : Fin 2048 → Fin 64 → EReal} {Q : Fin 64 → Fin 2048 → EReal} {B : Fin 8 → Fin 256 → Fin 256 → EReal}
  (hK : ∀ k d, IsReal (K k d)) (hQ : ∀ d s, IsReal (Q d s)) (hB : ∀ n j q, IsReal (B n j q))
include hK hQ

theorem gate_real (s : Fin 2048) (n : Fin 8) : IsReal (hgate K Q s n) :=
  IsReal.sum fun d => (IsReal.mean (IsReal.sum fun x => hK _ _)).mul (hQ _ _)

include hB

theorem raw_real (i : Fin 8) (q : Fin 256) (n : Fin 8) (j : Fin 256) : IsReal (hraw K Q B i q n j) :=
  (IsReal.sum fun d => (hK _ _).mul (hQ _ _)).add (hB _ _ _)
end real

end Cert.Moba

namespace Cert.ReferenceIdeal.Moba
variable (x0 : Vec Ideal S8x512x2048 .bf16) (x1 : Vec Ideal S8x2048x512 .bf16) (x2 : Vec Ideal S8x512x2048 .bf16)
  (x3 : Vec Ideal S8x8x256x256 .f32) (b h : Fin 8)

/-- Head `h`'s keys, queries (and values), and biases, in batch `b`. -/
def hK (k : Fin 2048) (d : Fin 64) : EReal := x1 (ix3 b k ⟨h.val * 64 + d.val, by omega⟩)
def hQ (x : Vec Ideal S8x512x2048 .bf16) (d : Fin 64) (s : Fin 2048) : EReal := x (ix3 b ⟨h.val * 64 + d.val, by omega⟩ s)
def hB (n : Fin 8) (j q : Fin 256) : EReal := x3 (ix4 h n j q)

/-- The block in place `k` for query `q` of block `i`. -/
def pick (i : Fin 8) (q : Fin 256) (k : Fin 3) : Fin 8 :=
  sel (past (hgate (hK x1 b h) (hQ b h x0) ⟨i.val * 256 + q.val, by omega⟩) i) ⟨k.val, by omega⟩

variable {x0 x1 x2 x3 b h}

theorem index_apply (i : Fin 8) (q : Fin 256) (k : Fin 3) :
    val_main_indices (F := Ideal) x0 x1 (ix5 b h i q k) = BitVec.ofNat 32 (pick x0 x1 b h i q k).val := by
  unfold val_main_indices
  rw [topk_apply]
  simp only [gate_apply]
  rfl

theorem index_toInt (i : Fin 8) (q : Fin 256) (k : Fin 3) :
    (val_main_indices (F := Ideal) x0 x1 (ix5 b h i q k)).toInt = (pick x0 x1 b h i q k).val := by
  rw [index_apply]
  exact toInt_small _ (by omega)

theorem key_apply (i : Fin 8) (q : Fin 256) (k : Fin 3) (j : Fin 256) (d : Fin 64) :
    val_main_v39 (F := Ideal) x0 x1 (ix7 b h i q k j d)
      = hK x1 b h ⟨(pick x0 x1 b h i q k).val * 256 + j.val, by omega⟩ d := by
  obtain ⟨e0, e1, e2⟩ := starts_k (x0 := x0) (x1 := x1) b h i q k
  unfold val_main_v39
  rw [gather_apply _ _ b h i q k j d b h (pick x0 x1 b h i q k) (by rw [e0]; exact toInt_small _ (by omega))
    (by rw [e1]; exact toInt_small _ (by omega)) (by rw [e2]; exact index_toInt i q k), keys_apply]
  rfl

theorem value_apply (i : Fin 8) (q : Fin 256) (k : Fin 3) (j : Fin 256) (d : Fin 64) :
    val_main_v46 (F := Ideal) x0 x1 x2 (ix7 b h i q k j d)
      = hQ b h x2 d ⟨(pick x0 x1 b h i q k).val * 256 + j.val, by omega⟩ := by
  obtain ⟨e0, e1, e2⟩ := starts_v (x0 := x0) (x1 := x1) b h i q k
  unfold val_main_v46
  rw [gather_apply _ _ b h i q k j d b h (pick x0 x1 b h i q k) (by rw [e0]; exact toInt_small _ (by omega))
    (by rw [e1]; exact toInt_small _ (by omega)) (by rw [e2]; exact index_toInt i q k), values_apply]
  rfl

theorem sub_block : ∀ i n : Fin 8, n < i → (IntOp.subi (BitVec.ofNat 32 i.val) (BitVec.ofNat 32 n.val)).toInt = (i - n).val := by
  decide

theorem biases_apply (i : Fin 8) (q : Fin 256) (k : Fin 3) (j : Fin 256) (hp : pick x0 x1 b h i q k < i) :
    val_main_v59 (F := Ideal) x0 x1 x3 (ix6 b h i q k j) = hB x3 h (i - pick x0 x1 b h i q k) j q := by
  obtain ⟨e0, e1, e2⟩ := starts_b (x0 := x0) (x1 := x1) b h i q k
  unfold val_main_v59
  rw [bgather_apply _ _ b h i q k j h (i - pick x0 x1 b h i q k) q (by rw [e0]; exact toInt_small _ (by omega))
    (by rw [e1, index_apply]; exact sub_block _ _ hp) (by rw [e2]; exact toInt_small _ (by omega)), bias_apply]
  rfl

theorem head_apply (h0 : ∀ y, IsReal (x0 y)) (h1 : ∀ y, IsReal (x1 y)) (h3 : ∀ y, IsReal (x3 y)) (i : Fin 8)
    (q : Fin 256) (d : Fin 64) :
    val_main_v87 (F := Ideal) x0 x1 x2 x3 (ix5 b h i q d) = hout (hK x1 b h) (hQ b h x0) (hQ b h x2) (hB x3 h) i q d := by
  have rg := gate_real (K := hK x1 b h) (Q := hQ b h x0) (fun _ _ => h1 _) fun _ _ => h0 _
  have rr := raw_real (K := hK x1 b h) (Q := hQ b h x0) (B := hB x3 h) (fun _ _ => h1 _) (fun _ _ => h0 _) fun _ _ _ => h3 _
  have hg : ∀ n, ⊥ < hgate (hK x1 b h) (hQ b h x0) ⟨i.val * 256 + q.val, by omega⟩ n := fun n =>
    bot_lt_iff_ne_bot.2 (rg _ n).ne_bot
  have hL : Lists (hgate (hK x1 b h) (hQ b h x0) ⟨i.val * 256 + q.val, by omega⟩) i
      (hscore (hK x1 b h) (hQ b h x0) (hB x3 h) i q) (fun s => val_main_v70 (F := Ideal) x0 x1 x3 (ix5 b h i q s)) := by
    refine ⟨fun k j => ?_, fun j => ?_⟩
    · have ek : (⟨(k.val * 256 + j.val) / 256, by omega⟩ : Fin 3) = k := Fin.ext (by dsimp only; omega)
      have ej : (⟨(k.val * 256 + j.val) % 256, by omega⟩ : Fin 256) = j := Fin.ext (by dsimp only; omega)
      rw [listed_apply, dif_pos (show k.val * 256 + j.val < 768 by omega), ek, ej, scores_apply]
      refine if_ctx_congr Iff.rfl (fun hk => ?_) fun _ => rfl
      have hp : pick x0 x1 b h i q k < i := (sel_lt _ hg i _).2 hk
      rw [biases_apply i q k j hp]
      simp only [queries_apply, key_apply]
      unfold hscore
      rw [if_pos (Or.inl ⟨hp, by rw [rank_sel _ hg i _ hp]; exact k.isLt⟩)]
      unfold hraw
      exact congrArg (· + _) (Finset.sum_congr rfl fun x _ => mul_comm _ _)
    · have ej : (⟨768 + j.val - 768, by omega⟩ : Fin 256) = j := Fin.ext (by dsimp only; omega)
      rw [listed_apply, dif_neg (show ¬ 768 + j.val < 768 by omega), ej, own_apply]
      unfold hscore
      rw [if_pos (Or.inr rfl)]
      rfl
  have ha := hL.att hg (fun n hn j => if_neg hn) (fun n j => ?_) (fun j => ?_)
    (fun n j => hQ b h x2 d ⟨n.val * 256 + j.val, by omega⟩) (fun k j => val_main_v46 (F := Ideal) x0 x1 x2 (ix7 b h i q k j d))
    (fun k _ => funext fun j => value_apply i q k j d)
  · unfold hout
    rw [← ha, val_main_v87_apply, past_apply, present_apply]
    simp only [weight_apply, exp_apply, max_apply, values_apply]
    rfl
  · unfold hscore
    split_ifs
    · exact (rr _ _ _ _).ne_top
    · exact bot_ne_top
  · unfold hscore
    rw [if_pos (Or.inr rfl)]
    exact (rr _ _ _ _).ne_bot

end Cert.ReferenceIdeal.Moba
-- ==== Proof.PreRead.lean ====
module
public import proofs.«01_k».proof.Pre_finite_scores
public import Idealize.ShloMosaic.Lib.Pointwise
@[expose] public section

/-!
The condition on the queries, the keys and the biases: each of their entries is a real number.
-/

set_option maxRecDepth 16384

noncomputable section

open Idealize.ShloMosaic
open Cert.Pre_finite_scores

namespace Cert.Pre_finite_scores.Moba

theorem facts : Facts where
  bcast_S_S8x512x2048 := by decide
  shapeCasts_S8x512x2048_S8388608 := by decide
  bcast_S_S8x2048x512 := by decide
  shapeCasts_S8x2048x512_S8388608 := by decide
  bcast_S_S8x8x256x256 := by decide
  shapeCasts_S8x8x256x256_S4194304 := by decide
  concatenates_S8388608_S8388608_S4194304_S20971520_d0 := by decide

variable [Facts] (A0 : FVec Ideal S8x512x2048 .bf16) (A1 : FVec Ideal S8x2048x512 .bf16) (A2 : FVec Ideal S8x512x2048 .bf16) (A3 : FVec Ideal S8x8x256x256 .f32)

/-- The condition, at a place in the list of all the entries it speaks of. -/
theorem at_apply (j : Fin 20971520) : fn (F := Ideal) A0 A1 A2 A3 (ix1 j)
    = if h : j.val < 8388608 then
        BitVec.ofBool (decide (FloatOps.absf (A0 (ix3 ⟨j.val / 1048576, by omega⟩ ⟨j.val / 2048 % 512, by omega⟩
          ⟨j.val % 2048, by omega⟩)) < Ideal.ofBits FTy.bf16 32640#16))
      else if h : j.val - 8388608 < 8388608 then
        BitVec.ofBool (decide (FloatOps.absf (A1 (ix3 ⟨(j.val - 8388608) / 1048576, by omega⟩
          ⟨(j.val - 8388608) / 512 % 2048, by omega⟩ ⟨(j.val - 8388608) % 512, by omega⟩)) < Ideal.ofBits FTy.bf16 32640#16))
      else
        BitVec.ofBool (decide (FloatOps.absf (A3 (ix4 ⟨(j.val - 8388608 - 8388608) / 524288, by omega⟩
          ⟨(j.val - 8388608 - 8388608) / 65536 % 8, by omega⟩ ⟨(j.val - 8388608 - 8388608) / 256 % 256, by omega⟩
          ⟨(j.val - 8388608 - 8388608) % 256, by omega⟩)) < Ideal.ofBits FTy.f32 2139095040#32)) := by
  pointwise [fn]

/-- A value whose absolute value is below infinity is a real number. -/
theorem real_of {x t : EReal} (h : BitVec.ofBool (decide (max x (-x) < t)) = 1#1) : ∃ r : ℝ, x = r := by
  have hl : max x (-x) < t := by
    by_contra hn
    rw [decide_eq_false hn] at h
    exact absurd h (by decide)
  have h1 : x ≠ ⊤ := fun e => not_top_lt (e ▸ (le_max_left x (-x)).trans_lt hl)
  have h2 : x ≠ ⊥ := fun e => by
    have := (le_max_right x (-x)).trans_lt hl
    rw [e, EReal.neg_bot] at this
    exact not_top_lt this
  exact ⟨x.toReal, (EReal.coe_toReal h1 h2).symm⟩

variable {A0 A1 A2 A3} (hp : fn (F := Ideal) A0 A1 A2 A3 = fun _ => 1#1)
include hp

theorem real0 (b : Fin 8) (r : Fin 512) (s : Fin 2048) : ∃ t : ℝ, A0 (ix3 b r s) = t := by
  have e := congrFun hp (ix1 ⟨(b.val * 512 + r.val) * 2048 + s.val, by omega⟩)
  rw [at_apply, dif_pos (by dsimp only; omega)] at e
  have e0 : (⟨((b.val * 512 + r.val) * 2048 + s.val) / 1048576, by omega⟩ : Fin 8) = b := Fin.ext (by dsimp only; omega)
  have e1 : (⟨((b.val * 512 + r.val) * 2048 + s.val) / 2048 % 512, by omega⟩ : Fin 512) = r := Fin.ext (by dsimp only; omega)
  have e2 : (⟨((b.val * 512 + r.val) * 2048 + s.val) % 2048, by omega⟩ : Fin 2048) = s := Fin.ext (by dsimp only; omega)
  dsimp only at e
  rw [e0, e1, e2] at e
  exact real_of e

theorem real1 (b : Fin 8) (s : Fin 2048) (r : Fin 512) : ∃ t : ℝ, A1 (ix3 b s r) = t := by
  obtain ⟨j, hj⟩ : ∃ j : ℕ, j = (b.val * 2048 + s.val) * 512 + r.val := ⟨_, rfl⟩
  have e := congrFun hp (ix1 ⟨8388608 + j, by omega⟩)
  rw [at_apply, dif_neg (by dsimp only; omega), dif_pos (by dsimp only; omega)] at e
  have e0 : (⟨(8388608 + j - 8388608) / 1048576, by omega⟩ : Fin 8) = b := Fin.ext (by dsimp only; omega)
  have e1 : (⟨(8388608 + j - 8388608) / 512 % 2048, by omega⟩ : Fin 2048) = s := Fin.ext (by dsimp only; omega)
  have e2 : (⟨(8388608 + j - 8388608) % 512, by omega⟩ : Fin 512) = r := Fin.ext (by dsimp only; omega)
  dsimp only at e
  rw [e0, e1, e2] at e
  exact real_of e

theorem real3 (h n : Fin 8) (k q : Fin 256) : ∃ t : ℝ, A3 (ix4 h n k q) = t := by
  obtain ⟨j, hj⟩ : ∃ j : ℕ, j = ((h.val * 8 + n.val) * 256 + k.val) * 256 + q.val := ⟨_, rfl⟩
  have e := congrFun hp (ix1 ⟨8388608 + 8388608 + j, by omega⟩)
  rw [at_apply, dif_neg (by dsimp only; omega), dif_neg (by dsimp only; omega)] at e
  have e0 : (⟨(8388608 + 8388608 + j - 8388608 - 8388608) / 524288, by omega⟩ : Fin 8) = h := Fin.ext (by dsimp only; omega)
  have e1 : (⟨(8388608 + 8388608 + j - 8388608 - 8388608) / 65536 % 8, by omega⟩ : Fin 8) = n := Fin.ext (by dsimp only; omega)
  have e2 : (⟨(8388608 + 8388608 + j - 8388608 - 8388608) / 256 % 256, by omega⟩ : Fin 256) = k := Fin.ext (by dsimp only; omega)
  have e3 : (⟨(8388608 + 8388608 + j - 8388608 - 8388608) % 256, by omega⟩ : Fin 256) = q := Fin.ext (by dsimp only; omega)
  dsimp only at e
  rw [e0, e1, e2, e3] at e
  exact real_of e

end Cert.Pre_finite_scores.Moba
-- ==== Proof.Proj.lean ====
module
public import proofs.«01_k».proof.Proof.Gen.Kernel2Ideal.Frame
public import proofs.«01_k».proof.Proof.Gen.Reference2Ideal.Read
public import Idealize.ShloMosaic.Lib.Pointwise
public import Idealize.ShloMosaic.Lib.Pipeline.ValueKit
public import Idealize.ShloMosaic.Lib.Claim
@[expose] public section

/-!
The input projection: the kernel's four results are the reference's.
-/

set_option maxRecDepth 16384

noncomputable section

open Idealize.ShloMosaic Idealize.ShloMosaic.TcCoe Idealize.SL.Sem
open Idealize.ShloMosaic.Pipeline (Dat)

namespace Cert.Reference2Ideal.Proj
open Cert.Reference2Ideal Cert.Reference2Ideal.Gen Cert.Reference2Ideal.Read

/-- The modulated input of batch `b`, position `s`, in lane `e`. -/
def inp (x0 : Vec Ideal S8x2048x1024 .f32) (x1 : Vec Ideal S8x6x1x1024 .f32) (b : Fin 8) (s : Fin 2048) (e : Fin 1024) : EReal :=
  x0 (ix3 b s e) * (1 + x1 (ix4 b 1 0 e)) + x1 (ix4 b 0 0 e)

variable (x0 : Vec Ideal S8x2048x1024 .f32) (x1 : Vec Ideal S8x6x1x1024 .f32) (x2 : Vec Ideal S1024x1024 .bf16)
  (x3 : Vec Ideal S1024x2048 .bf16)

theorem rows_apply (b : Fin 8) (r : Fin 1024) (s : Fin 2048) :
    val_main_v12 (F := Ideal) x0 x1 x2 (ix3 b r s) = ∑ e, x2 (ix2 r e) * inp x0 x1 b s e := by
  unfold inp
  pointwise [val_main_v12, val_main_v11, val_main_v10, val_main_v9, val_main_v8, val_main_v7, val_main_v6, val_main_v5,
    val_main_v4, val_main_v3, val_main_v2, val_main_v1, val_main_v0, val_main_cst]

theorem cols_apply (b : Fin 8) (s : Fin 2048) (r : Fin 2048) :
    val_main_v13 (F := Ideal) x0 x1 x3 (ix3 b s r) = ∑ e, inp x0 x1 b s e * x3 (ix2 e r) := by
  unfold inp
  pointwise [val_main_v13, val_main_v10, val_main_v9, val_main_v8, val_main_v7, val_main_v6, val_main_v5,
    val_main_v4, val_main_v3, val_main_v2, val_main_v1, val_main_v0, val_main_cst]

theorem queries_apply (b : Fin 8) (r : Fin 512) (s : Fin 2048) :
    val_main_v15 (F := Ideal) x0 x1 x2 (ix3 b r s) = ∑ e, x2 (ix2 ⟨r.val, by omega⟩ e) * inp x0 x1 b s e := by
  rw [← rows_apply]
  unfold val_main_v15 val_main_v14
  generalize val_main_v12 x0 x1 x2 = y
  pointwise []

theorem values_apply (b : Fin 8) (r : Fin 512) (s : Fin 2048) :
    val_main_v17 (F := Ideal) x0 x1 x2 (ix3 b r s) = ∑ e, x2 (ix2 ⟨512 + r.val, by omega⟩ e) * inp x0 x1 b s e := by
  rw [← rows_apply]
  unfold val_main_v17 val_main_v16
  generalize val_main_v12 x0 x1 x2 = y
  pointwise []

theorem keys_apply (b : Fin 8) (s : Fin 2048) (r : Fin 512) :
    val_main_v19 (F := Ideal) x0 x1 x3 (ix3 b s r) = ∑ e, inp x0 x1 b s e * x3 (ix2 e ⟨r.val, by omega⟩) := by
  rw [← cols_apply]
  unfold val_main_v19 val_main_v18
  generalize val_main_v13 x0 x1 x3 = y
  pointwise []

theorem others_apply (b : Fin 8) (s : Fin 2048) (r : Fin 1536) :
    val_main_v20 (F := Ideal) x0 x1 x3 (ix3 b s r) = ∑ e, inp x0 x1 b s e * x3 (ix2 e ⟨512 + r.val, by omega⟩) := by
  rw [← cols_apply]
  unfold val_main_v20
  generalize val_main_v13 x0 x1 x3 = y
  pointwise []

end Cert.Reference2Ideal.Proj

namespace Cert.Kernel2Ideal.Proj
open Cert.Kernel2Ideal Cert.Kernel2Ideal.Gen Cert.Reference2Ideal.Proj

section tile
variable (x0 : Vec Ideal S1x512x1024 .f32) (x1 x2 : Vec Ideal S1x1x1x1024 .f32) (x3 : Vec Ideal S1024x1024 .bf16)
  (x4 : Vec Ideal S1024x2048 .bf16)

/-- The modulated input of a tile. -/
def tinp (s : Fin 512) (e : Fin 1024) : EReal :=
  x0 (ix3 0 s e) * (1 + x2 (ix4 0 0 0 e)) + x1 (ix4 0 0 0 e)

theorem out5_apply (r s : Fin 512) :
    out0_5 x0 x1 x2 x3 x4 (ix3 0 r s) = ∑ e, x3 (ix2 ⟨r.val, by omega⟩ e) * tinp x0 x1 x2 s e := by
  unfold tinp
  frame_out
  pointwise [k0_pay5, k0_pay4, k0_pay3]

theorem out6_apply (r s : Fin 512) :
    out0_6 x0 x1 x2 x3 x4 (ix3 0 r s) = ∑ e, x3 (ix2 ⟨512 + r.val, by omega⟩ e) * tinp x0 x1 x2 s e := by
  unfold tinp
  frame_out
  pointwise [k0_pay6, k0_pay4, k0_pay3]

theorem out7_apply (s r : Fin 512) :
    out0_7 x0 x1 x2 x3 x4 (ix3 0 s r) = ∑ e, tinp x0 x1 x2 s e * x4 (ix2 e ⟨r.val, by omega⟩) := by
  unfold tinp
  frame_out
  pointwise [k0_pay1, k0_pay8, k0_pay7, k0_pay3]

theorem out8_apply (s : Fin 512) (r : Fin 1536) :
    out0_8 x0 x1 x2 x3 x4 (ix3 0 s r) = ∑ e, tinp x0 x1 x2 s e * x4 (ix2 e ⟨512 + r.val, by omega⟩) := by
  unfold tinp
  frame_out
  pointwise [k0_pay2, k0_pay7, k0_pay3]
end tile

theorem idx : ∀ t : Fin cfg0.N,
    (win0_0.index t 0 = t.val / 4 ∧ win0_0.index t 1 = t.val % 4 ∧ win0_0.index t 2 = 0) ∧
    (win0_1.index t 0 = t.val / 4 ∧ win0_1.index t 1 = 0 ∧ win0_1.index t 2 = 0 ∧ win0_1.index t 3 = 0) ∧
    (win0_2.index t 0 = t.val / 4 ∧ win0_2.index t 1 = 1 ∧ win0_2.index t 2 = 0 ∧ win0_2.index t 3 = 0) ∧
    (win0_3.index t 0 = 0 ∧ win0_3.index t 1 = 0) ∧ (win0_4.index t 0 = 0 ∧ win0_4.index t 1 = 0) :=
  (by decide +kernel : ∀ t : Fin grid0.N, _)

theorem odx : ∀ t : Fin cfg0.N,
    (win0_5.index t 0 = t.val / 4 ∧ win0_5.index t 1 = 0 ∧ win0_5.index t 2 = t.val % 4) ∧
    (win0_6.index t 0 = t.val / 4 ∧ win0_6.index t 1 = 0 ∧ win0_6.index t 2 = t.val % 4) ∧
    (win0_7.index t 0 = t.val / 4 ∧ win0_7.index t 1 = t.val % 4 ∧ win0_7.index t 2 = 0) ∧
    (win0_8.index t 0 = t.val / 4 ∧ win0_8.index t 1 = t.val % 4 ∧ win0_8.index t 2 = 0) :=
  (by decide +kernel : ∀ t : Fin grid0.N, _)

variable (m : (ℓ : Loc nD τ sig) → Buf (Elt Ideal) ℓ) (c : Dev nD)

theorem blk0 (t : Fin cfg0.N) (s : Fin 512) (e : Fin 1024) :
    iblk m c 0 t (ix3 0 s e) = m ((c.tc : Thread nD τ).loc main_arg0)
      (ix3 ⟨t.val / 4, by have : t.val < 32 := t.isLt; omega⟩ ⟨t.val % 4 * 512 + s.val, by omega⟩ e) := by
  blk_point [iblk, V, idx t]

theorem blk1 (t : Fin cfg0.N) (e : Fin 1024) :
    iblk m c 1 t (ix4 0 0 0 e) = m ((c.tc : Thread nD τ).loc main_arg1)
      (ix4 ⟨t.val / 4, by have : t.val < 32 := t.isLt; omega⟩ 0 0 e) := by
  blk_point [iblk, V, idx t]

theorem blk2 (t : Fin cfg0.N) (e : Fin 1024) :
    iblk m c 2 t (ix4 0 0 0 e) = m ((c.tc : Thread nD τ).loc main_arg1)
      (ix4 ⟨t.val / 4, by have : t.val < 32 := t.isLt; omega⟩ 1 0 e) := by
  blk_point [iblk, V, idx t]

theorem blk3 (t : Fin cfg0.N) (r e : Fin 1024) :
    iblk m c 3 t (ix2 r e) = m ((c.tc : Thread nD τ).loc main_arg2) (ix2 r e) := by
  blk_point [iblk, V, idx t]

theorem blk4 (t : Fin cfg0.N) (e : Fin 1024) (r : Fin 2048) :
    iblk m c 4 t (ix2 e r) = m ((c.tc : Thread nD τ).loc main_arg3) (ix2 e r) := by
  blk_point [iblk, V, idx t]

/-- The kernel's modulated input is the whole arrays'. -/
theorem tinp_eq (t : Fin cfg0.N) (s : Fin 512) (e : Fin 1024) :
    tinp (iblk m c 0 t) (iblk m c 1 t) (iblk m c 2 t) s e = inp (m ((c.tc : Thread nD τ).loc main_arg0))
      (m ((c.tc : Thread nD τ).loc main_arg1)) ⟨t.val / 4, by have : t.val < 32 := t.isLt; omega⟩
      ⟨t.val % 4 * 512 + s.val, by omega⟩ e := by
  unfold tinp inp
  rw [blk0, blk1, blk2]

/-- A row of weights against an input, and an input against a column. -/
def row (x0 : Vec Ideal S8x2048x1024 .f32) (x1 : Vec Ideal S8x6x1x1024 .f32) (w : Vec Ideal S1024x1024 .bf16)
    (k : Fin 1024) (b : Fin 8) (s : Fin 2048) : EReal := ∑ e, w (ix2 k e) * inp x0 x1 b s e
def col (x0 : Vec Ideal S8x2048x1024 .f32) (x1 : Vec Ideal S8x6x1x1024 .f32) (w : Vec Ideal S1024x2048 .bf16)
    (b : Fin 8) (s : Fin 2048) (k : Fin 2048) : EReal := ∑ e, inp x0 x1 b s e * w (ix2 e k)

theorem row_place (x0 x1 w) {k k' : Fin 1024} {b b' : Fin 8} {s s' : Fin 2048} (h0 : k.val = k'.val) (h1 : b.val = b'.val)
    (h2 : s.val = s'.val) : row x0 x1 w k b s = row x0 x1 w k' b' s' := by
  rw [Fin.ext h0, Fin.ext h1, Fin.ext h2]
theorem col_place (x0 x1 w) {k k' : Fin 2048} {b b' : Fin 8} {s s' : Fin 2048} (h0 : k.val = k'.val) (h1 : b.val = b'.val)
    (h2 : s.val = s'.val) : col x0 x1 w b s k = col x0 x1 w b' s' k' := by
  rw [Fin.ext h0, Fin.ext h1, Fin.ext h2]

theorem whole5 : (dats m 0 c).arrAt 5 cfg0.N = fun x => row (m ((c.tc : Thread nD τ).loc main_arg0)) (m ((c.tc : Thread nD τ).loc main_arg1)) (m ((c.tc : Thread nD τ).loc main_arg2))
     ⟨(x 1).val, by have : (x 1).val < 512 := (x 1).isLt; omega⟩ (x 0) (x 2) := by
  refine (dats m 0 c).arrAt_eq_of_covers 5 _ (by decide +kernel) fun t _ y => ?_
  have ht : t.val < 32 := t.isLt
  obtain ⟨i0, i1, i2⟩ := (odx t).1
  blk_simp
  rw [after0_5]
  obtain ⟨a, r, s, rfl⟩ : ∃ (a : Fin 1) (r s : Fin 512), y = ix3 a r s := ⟨_, _, _, eq_ix3 y⟩
  obtain rfl : a = 0 := Subsingleton.elim _ _
  rw [out5_apply]
  simp only [tinp_eq, blk3]
  refine row_place _ _ _ ?_ ?_ ?_
  · blk_simp [i1]
  · blk_simp [i0]
    rfl
  · blk_simp [i2]

theorem whole6 : (dats m 0 c).arrAt 6 cfg0.N = fun x => row (m ((c.tc : Thread nD τ).loc main_arg0)) (m ((c.tc : Thread nD τ).loc main_arg1)) (m ((c.tc : Thread nD τ).loc main_arg2))
     ⟨512 + (x 1).val, by have : (x 1).val < 512 := (x 1).isLt; omega⟩ (x 0) (x 2) := by
  refine (dats m 0 c).arrAt_eq_of_covers 6 _ (by decide +kernel) fun t _ y => ?_
  have ht : t.val < 32 := t.isLt
  obtain ⟨i0, i1, i2⟩ := (odx t).2.1
  blk_simp
  rw [after0_6]
  obtain ⟨a, r, s, rfl⟩ : ∃ (a : Fin 1) (r s : Fin 512), y = ix3 a r s := ⟨_, _, _, eq_ix3 y⟩
  obtain rfl : a = 0 := Subsingleton.elim _ _
  rw [out6_apply]
  simp only [tinp_eq, blk3]
  refine row_place _ _ _ ?_ ?_ ?_
  · blk_simp [i1]
  · blk_simp [i0]
    rfl
  · blk_simp [i2]

theorem whole7 : (dats m 0 c).arrAt 7 cfg0.N = fun x => col (m ((c.tc : Thread nD τ).loc main_arg0)) (m ((c.tc : Thread nD τ).loc main_arg1)) (m ((c.tc : Thread nD τ).loc main_arg3))
     (x 0) (x 1) ⟨(x 2).val, by have : (x 2).val < 512 := (x 2).isLt; omega⟩ := by
  refine (dats m 0 c).arrAt_eq_of_covers 7 _ (by decide +kernel) fun t _ y => ?_
  have ht : t.val < 32 := t.isLt
  obtain ⟨i0, i1, i2⟩ := (odx t).2.2.1
  blk_simp
  rw [after0_7]
  obtain ⟨a, s, r, rfl⟩ : ∃ (a : Fin 1) (s r : Fin 512), y = ix3 a s r := ⟨_, _, _, eq_ix3 y⟩
  obtain rfl : a = 0 := Subsingleton.elim _ _
  rw [out7_apply]
  simp only [tinp_eq, blk4]
  refine col_place _ _ _ ?_ ?_ ?_
  · blk_simp [i2]
  · blk_simp [i0]
    rfl
  · blk_simp [i1]

theorem whole8 : (dats m 0 c).arrAt 8 cfg0.N = fun x => col (m ((c.tc : Thread nD τ).loc main_arg0)) (m ((c.tc : Thread nD τ).loc main_arg1)) (m ((c.tc : Thread nD τ).loc main_arg3))
     (x 0) (x 1) ⟨512 + (x 2).val, by have : (x 2).val < 1536 := (x 2).isLt; omega⟩ := by
  refine (dats m 0 c).arrAt_eq_of_covers 8 _ (by decide +kernel) fun t _ y => ?_
  have ht : t.val < 32 := t.isLt
  obtain ⟨i0, i1, i2⟩ := (odx t).2.2.2
  blk_simp
  rw [after0_8]
  obtain ⟨a, s, r, rfl⟩ : ∃ (a : Fin 1) (s : Fin 512) (r : Fin 1536), y = ix3 a s r := ⟨_, _, _, eq_ix3 y⟩
  obtain rfl : a = 0 := Subsingleton.elim _ _
  rw [out8_apply]
  simp only [tinp_eq, blk4]
  refine col_place _ _ _ ?_ ?_ ?_
  · blk_simp [i2]
  · blk_simp [i0]
    rfl
  · blk_simp [i1]
end Cert.Kernel2Ideal.Proj
-- ==== Proof.Out.lean ====
module
public import proofs.«01_k».proof.Proof.Gen.Kernel3Ideal.Frame
public import proofs.«01_k».proof.Proof.Gen.Reference3Ideal.Read
public import Idealize.ShloMosaic.Lib.Pointwise
public import Idealize.ShloMosaic.Lib.Pipeline.ValueKit
public import Idealize.ShloMosaic.Lib.Claim
@[expose] public section

/-!
The output projection: one line (batch and position) of the kernel's results is that of the reference's.
-/

set_option maxRecDepth 16384

noncomputable section

open Idealize.ShloMosaic Idealize.ShloMosaic.TcCoe Idealize.SL.Sem
open Idealize.ShloMosaic.Pipeline (Dat)

/-! ## One line -/

namespace Cert.OutLine

/-- A line divided by the root of its mean square, times a gain. -/
def rms (f g : Fin 512 → EReal) (e : Fin 512) : EReal :=
  f e * Ideal.rsqrt (Ideal.div (∑ x, f x * f x) (Ideal.ofBits FTy.f32 0x44000000#32) + Ideal.ofBits FTy.f32 0x3727C5AC#32) * g e

/-- A line's layer norm with gain `l` and bias `k`. -/
def lnorm (f l k : Fin 1024 → EReal) (e : Fin 1024) : EReal :=
  (f e - Ideal.div (∑ x, f x) (Ideal.ofBits FTy.f32 0x44800000#32)) *
      Ideal.rsqrt (Ideal.div (∑ x, (f x - Ideal.div (∑ y, f y) (Ideal.ofBits FTy.f32 0x44800000#32)) *
          (f x - Ideal.div (∑ y, f y) (Ideal.ofBits FTy.f32 0x44800000#32))) (Ideal.ofBits FTy.f32 0x44800000#32)
        + Ideal.ofBits FTy.f32 0x3727C5AC#32) * l e + k e

/-- The scaled input plus the gated projection of both normed heads. -/
def mix (a b ga gb : Fin 512 → EReal) (wa wb : Fin 512 → Fin 1024 → EReal) (x g : Fin 1024 → EReal) (e : Fin 1024) : EReal :=
  Ideal.ofBits FTy.f32 0x3F9837F0#32 * x e + (1 + g e) * ((∑ i, rms a ga i * wa i e) + ∑ i, rms b gb i * wb i e)

/-- The residual stream after the block. -/
def stream (a b ga gb : Fin 512 → EReal) (wa wb : Fin 512 → Fin 1024 → EReal) (x g l k : Fin 1024 → EReal) : Fin 1024 → EReal :=
  lnorm (mix a b ga gb wa wb x g) l k

end Cert.OutLine

open Cert.OutLine

/-! ## The reference -/

namespace Cert.Reference3Ideal.Out
open Cert.Reference3Ideal Cert.Reference3Ideal.Gen Cert.Reference3Ideal.Read

variable (x0 : Vec Ideal S8x512x2048 .f32) (x1 : Vec Ideal S8x2048x512 .f32) (x2 : Vec Ideal S8x2048x1024 .f32)
  (x3 : Vec Ideal S8x6x1x1024 .f32) (x4 x5 : Vec Ideal S512 .f32) (x6 x7 : Vec Ideal S512x1024 .bf16)
  (x8 x9 : Vec Ideal S1024 .f32)

/-- The line at batch `b` and position `s`, from the whole arrays. -/
def line (b : Fin 8) (s : Fin 2048) (e : Fin 1024) : EReal :=
  stream (fun i => x0 (ix3 b i s)) (fun i => x1 (ix3 b s i)) (fun i => x4 (ix1 i)) (fun i => x5 (ix1 i))
    (fun i e => x6 (ix2 i e)) (fun i e => x7 (ix2 i e)) (fun e => x2 (ix3 b s e)) (fun e => x3 (ix4 b 2 0 e))
    (fun e => x8 (ix1 e)) (fun e => x9 (ix1 e)) e

theorem first_apply (b : Fin 8) (s : Fin 2048) (e : Fin 512) :
    val_main_v19 (F := Ideal) x0 x4 (ix3 b s e) = rms (fun i => x0 (ix3 b i s)) (fun i => x4 (ix1 i)) e := by
  unfold rms
  pointwise [val_main_v19, val_main_v18, val_main_v17, val_main_v16, val_main_v15, val_main_v14, val_main_v13, val_main_v12,
    val_main_v11, val_main_v10, val_main_v9, val_main_v8, val_main_v7, val_main_v6, val_main_cst, val_main_cst_0, val_main_cst_1]

theorem second_apply (b : Fin 8) (s : Fin 2048) (e : Fin 512) :
    val_main_v32 (F := Ideal) x1 x5 (ix3 b s e) = rms (fun i => x1 (ix3 b s i)) (fun i => x5 (ix1 i)) e := by
  unfold rms
  pointwise [val_main_v32, val_main_v31, val_main_v30, val_main_v29, val_main_v28, val_main_v27, val_main_v26, val_main_v25,
    val_main_v24, val_main_v23, val_main_v22, val_main_v21, val_main_v20, val_main_cst_2, val_main_cst_3, val_main_cst_4]

/-- The concatenated heads against the concatenated weights: one sum for each half. -/
theorem proj_apply (b : Fin 8) (s : Fin 2048) (e : Fin 1024) :
    val_main_v36 (F := Ideal) x0 x1 x4 x5 x6 x7 (ix3 b s e)
      = (∑ i, rms (fun i => x0 (ix3 b i s)) (fun i => x4 (ix1 i)) i * x6 (ix2 i e))
        + ∑ i, rms (fun i => x1 (ix3 b s i)) (fun i => x5 (ix1 i)) i * x7 (ix2 i e) := by
  simp only [← first_apply, ← second_apply]
  unfold val_main_v36 val_main_v34 val_main_v33
  generalize val_main_v19 x0 x4 = y
  generalize val_main_v32 x1 x5 = z
  pointwise [val_main_v35]

theorem mix_apply (b : Fin 8) (s : Fin 2048) (e : Fin 1024) :
    val_main_v43 (F := Ideal) x0 x1 x2 x3 x4 x5 x6 x7 (ix3 b s e)
      = mix (fun i => x0 (ix3 b i s)) (fun i => x1 (ix3 b s i)) (fun i => x4 (ix1 i)) (fun i => x5 (ix1 i))
        (fun i e => x6 (ix2 i e)) (fun i e => x7 (ix2 i e)) (fun e => x2 (ix3 b s e)) (fun e => x3 (ix4 b 2 0 e)) e := by
  unfold mix
  rw [← proj_apply]
  unfold val_main_v43 val_main_v42
  generalize val_main_v36 x0 x1 x4 x5 x6 x7 = z
  pointwise [val_main_v41, val_main_v40, val_main_v39, val_main_v38, val_main_v37, val_main_v1, val_main_v0, val_main_cst_5,
    val_main_cst_6]

theorem stream_apply (b : Fin 8) (s : Fin 2048) (e : Fin 1024) :
    val_main_v67 (F := Ideal) x0 x1 x2 x3 x4 x5 x6 x7 x8 x9 (ix3 b s e) = line x0 x1 x2 x3 x4 x5 x6 x7 x8 x9 b s e := by
  unfold line stream lnorm
  simp only [← mix_apply]
  unfold val_main_v67 val_main_v64 val_main_v61 val_main_v60 val_main_v59 val_main_v58 val_main_v56 val_main_v55 val_main_v54
    val_main_v52 val_main_v51 val_main_v50 val_main_v49 val_main_v48 val_main_v47 val_main_v45 val_main_v44
  generalize val_main_v43 x0 x1 x2 x3 x4 x5 x6 x7 = z
  pointwise [val_main_v66, val_main_v65, val_main_v63, val_main_v62, val_main_v57, val_main_v53, val_main_v46, val_main_cst_7,
    val_main_cst_8, val_main_cst_9, val_main_cst_10, val_main_cst_11]

theorem next_apply (b : Fin 8) (s : Fin 2048) (e : Fin 1024) :
    val_main_v74 (F := Ideal) x0 x1 x2 x3 x4 x5 x6 x7 x8 x9 (ix3 b s e)
      = line x0 x1 x2 x3 x4 x5 x6 x7 x8 x9 b s e * (1 + x3 (ix4 b 4 0 e)) + x3 (ix4 b 3 0 e) := by
  rw [← stream_apply]
  unfold val_main_v74 val_main_v73 val_main_v71
  generalize val_main_v67 x0 x1 x2 x3 x4 x5 x6 x7 x8 x9 = z
  pointwise [val_main_v72, val_main_v70, val_main_v69, val_main_v68, val_main_v5, val_main_v4, val_main_v3, val_main_v2,
    val_main_cst_12]

end Cert.Reference3Ideal.Out

/-! ## The kernel -/

namespace Cert.Kernel3Ideal.Out
open Cert.Kernel3Ideal Cert.Kernel3Ideal.Gen Cert.Reference3Ideal.Out

section tile
variable (x0 x1 : Vec Ideal S1x512x512 .f32) (x2 : Vec Ideal S1x512x1024 .f32) (x3 x4 x5 : Vec Ideal S1x1x1x1024 .f32)
  (x6 x7 : Vec Ideal S1x512 .f32) (x8 x9 : Vec Ideal S512x1024 .bf16) (x10 x11 : Vec Ideal S1x1024 .f32)

/-- The line at a tile's position `s`. -/
def tline (s : Fin 512) (e : Fin 1024) : EReal :=
  stream (fun i => x0 (ix3 0 i s)) (fun i => x1 (ix3 0 s i)) (fun i => x6 (ix2 0 i)) (fun i => x7 (ix2 0 i))
    (fun i e => x8 (ix2 i e)) (fun i e => x9 (ix2 i e)) (fun e => x2 (ix3 0 s e)) (fun e => x3 (ix4 0 0 0 e))
    (fun e => x10 (ix2 0 e)) (fun e => x11 (ix2 0 e)) e

theorem pay3_apply (s : Fin 512) (e : Fin 1024) :
    k0_pay3 (F := Ideal) x0 x6 x8 (ix2 s e)
      = ∑ i, rms (fun i => x0 (ix3 0 i s)) (fun i => x6 (ix2 0 i)) i * x8 (ix2 i e) := by
  unfold rms
  pointwise [k0_pay3]

theorem pay4_apply (s i : Fin 512) :
    k0_pay4 (F := Ideal) x1 x7 (ix2 s i) = rms (fun i => x1 (ix3 0 s i)) (fun i => x7 (ix2 0 i)) i := by
  unfold rms
  pointwise [k0_pay4]

theorem pay5_apply (u : FVec Ideal S512x1024 .f32) (v : FVec Ideal S512x512 .bf16) (s : Fin 512) (e : Fin 1024) :
    k0_pay5 (F := Ideal) u v x9 x2 x3 x10 x11 (ix2 s e)
      = lnorm (fun e => Ideal.ofBits FTy.f32 0x3F9837F0#32 * x2 (ix3 0 s e)
          + (1 + x3 (ix4 0 0 0 e)) * (u (ix2 s e) + ∑ i, v (ix2 s i) * x9 (ix2 i e)))
        (fun e => x10 (ix2 0 e)) (fun e => x11 (ix2 0 e)) e := by
  unfold lnorm
  pointwise [k0_pay5]

theorem pay6_apply (s : Fin 512) (e : Fin 1024) :
    k0_pay6 (F := Ideal) x0 x1 x2 x3 x4 x5 x6 x7 x8 x9 x10 x11 (ix2 s e)
      = tline x0 x1 x2 x3 x6 x7 x8 x9 x10 x11 s e := by
  unfold k0_pay6
  frame_out
  rw [pay5_apply]
  simp only [pay3_apply, pay4_apply]
  rfl

theorem out12_apply (s : Fin 512) (e : Fin 1024) :
    out0_12 x0 x1 x2 x3 x4 x5 x6 x7 x8 x9 x10 x11 (ix3 0 s e) = tline x0 x1 x2 x3 x6 x7 x8 x9 x10 x11 s e := by
  rw [← pay6_apply x0 x1 x2 x3 x4 x5]
  unfold out0_12
  generalize k0_pay6 x0 x1 x2 x3 x4 x5 x6 x7 x8 x9 x10 x11 = y
  frame_out
  pointwise [k0_pay1]

theorem out13_apply (s : Fin 512) (e : Fin 1024) :
    out0_13 x0 x1 x2 x3 x4 x5 x6 x7 x8 x9 x10 x11 (ix3 0 s e)
      = tline x0 x1 x2 x3 x6 x7 x8 x9 x10 x11 s e * (1 + x5 (ix4 0 0 0 e)) + x4 (ix4 0 0 0 e) := by
  rw [← pay6_apply x0 x1 x2 x3 x4 x5]
  unfold out0_13
  generalize k0_pay6 x0 x1 x2 x3 x4 x5 x6 x7 x8 x9 x10 x11 = y
  frame_out
  pointwise [k0_pay2]
end tile

/-! ## The grid -/

theorem idx : ∀ t : Fin cfg0.N,
    (win0_0.index t 0 = t.val / 4 ∧ win0_0.index t 1 = 0 ∧ win0_0.index t 2 = t.val % 4) ∧
    (win0_1.index t 0 = t.val / 4 ∧ win0_1.index t 1 = t.val % 4 ∧ win0_1.index t 2 = 0) ∧
    (win0_2.index t 0 = t.val / 4 ∧ win0_2.index t 1 = t.val % 4 ∧ win0_2.index t 2 = 0) ∧
    (win0_3.index t 0 = t.val / 4 ∧ win0_3.index t 1 = 2 ∧ win0_3.index t 2 = 0 ∧ win0_3.index t 3 = 0) ∧
    (win0_4.index t 0 = t.val / 4 ∧ win0_4.index t 1 = 3 ∧ win0_4.index t 2 = 0 ∧ win0_4.index t 3 = 0) ∧
    (win0_5.index t 0 = t.val / 4 ∧ win0_5.index t 1 = 4 ∧ win0_5.index t 2 = 0 ∧ win0_5.index t 3 = 0) :=
  (by decide +kernel : ∀ t : Fin grid0.N, _)

theorem wdx : ∀ t : Fin cfg0.N,
    (win0_6.index t 0 = 0 ∧ win0_6.index t 1 = 0) ∧ (win0_7.index t 0 = 0 ∧ win0_7.index t 1 = 0) ∧
    (win0_8.index t 0 = 0 ∧ win0_8.index t 1 = 0) ∧ (win0_9.index t 0 = 0 ∧ win0_9.index t 1 = 0) ∧
    (win0_10.index t 0 = 0 ∧ win0_10.index t 1 = 0) ∧ (win0_11.index t 0 = 0 ∧ win0_11.index t 1 = 0) :=
  (by decide +kernel : ∀ t : Fin grid0.N, _)

theorem odx : ∀ t : Fin cfg0.N,
    (win0_12.index t 0 = t.val / 4 ∧ win0_12.index t 1 = t.val % 4 ∧ win0_12.index t 2 = 0) ∧
    (win0_13.index t 0 = t.val / 4 ∧ win0_13.index t 1 = t.val % 4 ∧ win0_13.index t 2 = 0) :=
  (by decide +kernel : ∀ t : Fin grid0.N, _)

variable (m : (ℓ : Loc nD τ sig) → Buf (Elt Ideal) ℓ) (c : Dev nD)

/-- The batch of a grid point, and the position of a tile's row. -/
def bat (t : Fin cfg0.N) : Fin 8 := ⟨t.val / 4, by have : t.val < 32 := t.isLt; omega⟩
def pos (t : Fin cfg0.N) (s : Fin 512) : Fin 2048 := ⟨t.val % 4 * 512 + s.val, by omega⟩

theorem blk0 (t : Fin cfg0.N) (i s : Fin 512) :
    iblk m c 0 t (ix3 0 i s) = m ((c.tc : Thread nD τ).loc main_arg0) (ix3 (bat t) i (pos t s)) := by
  unfold bat pos
  blk_point [iblk, V, idx t]

theorem blk1 (t : Fin cfg0.N) (s i : Fin 512) :
    iblk m c 1 t (ix3 0 s i) = m ((c.tc : Thread nD τ).loc main_arg1) (ix3 (bat t) (pos t s) i) := by
  unfold bat pos
  blk_point [iblk, V, idx t]

theorem blk2 (t : Fin cfg0.N) (s : Fin 512) (e : Fin 1024) :
    iblk m c 2 t (ix3 0 s e) = m ((c.tc : Thread nD τ).loc main_arg2) (ix3 (bat t) (pos t s) e) := by
  unfold bat pos
  blk_point [iblk, V, idx t]

theorem blk3 (t : Fin cfg0.N) (e : Fin 1024) :
    iblk m c 3 t (ix4 0 0 0 e) = m ((c.tc : Thread nD τ).loc main_arg3) (ix4 (bat t) 2 0 e) := by
  unfold bat
  blk_point [iblk, V, idx t]

theorem blk4 (t : Fin cfg0.N) (e : Fin 1024) :
    iblk m c 4 t (ix4 0 0 0 e) = m ((c.tc : Thread nD τ).loc main_arg3) (ix4 (bat t) 3 0 e) := by
  unfold bat
  blk_point [iblk, V, idx t]

theorem blk5 (t : Fin cfg0.N) (e : Fin 1024) :
    iblk m c 5 t (ix4 0 0 0 e) = m ((c.tc : Thread nD τ).loc main_arg3) (ix4 (bat t) 4 0 e) := by
  unfold bat
  blk_point [iblk, V, idx t]

/-- The host's reshaped gains and biases. -/
theorem V0 (i : Fin 512) : V m c main_v0 (ix2 0 i) = m ((c.tc : Thread nD τ).loc main_arg4) (ix1 i) := by
  entry_read
  pointwise []
theorem V1 (i : Fin 512) : V m c main_v1 (ix2 0 i) = m ((c.tc : Thread nD τ).loc main_arg5) (ix1 i) := by
  entry_read
  pointwise []
theorem V2 (e : Fin 1024) : V m c main_v2 (ix2 0 e) = m ((c.tc : Thread nD τ).loc main_arg8) (ix1 e) := by
  entry_read
  pointwise []
theorem V3 (e : Fin 1024) : V m c main_v3 (ix2 0 e) = m ((c.tc : Thread nD τ).loc main_arg9) (ix1 e) := by
  entry_read
  pointwise []

theorem blk6 (t : Fin cfg0.N) (i : Fin 512) :
    iblk m c 6 t (ix2 0 i) = m ((c.tc : Thread nD τ).loc main_arg4) (ix1 i) := by
  refine Eq.trans ?_ (V0 m c i)
  blk_point [iblk, wdx t]

theorem blk7 (t : Fin cfg0.N) (i : Fin 512) :
    iblk m c 7 t (ix2 0 i) = m ((c.tc : Thread nD τ).loc main_arg5) (ix1 i) := by
  refine Eq.trans ?_ (V1 m c i)
  blk_point [iblk, wdx t]

theorem blk8 (t : Fin cfg0.N) (i : Fin 512) (e : Fin 1024) :
    iblk m c 8 t (ix2 i e) = m ((c.tc : Thread nD τ).loc main_arg6) (ix2 i e) := by
  blk_point [iblk, V, wdx t]

theorem blk9 (t : Fin cfg0.N) (i : Fin 512) (e : Fin 1024) :
    iblk m c 9 t (ix2 i e) = m ((c.tc : Thread nD τ).loc main_arg7) (ix2 i e) := by
  blk_point [iblk, V, wdx t]

theorem blk10 (t : Fin cfg0.N) (e : Fin 1024) :
    iblk m c 10 t (ix2 0 e) = m ((c.tc : Thread nD τ).loc main_arg8) (ix1 e) := by
  refine Eq.trans ?_ (V2 m c e)
  blk_point [iblk, wdx t]

theorem blk11 (t : Fin cfg0.N) (e : Fin 1024) :
    iblk m c 11 t (ix2 0 e) = m ((c.tc : Thread nD τ).loc main_arg9) (ix1 e) := by
  refine Eq.trans ?_ (V3 m c e)
  blk_point [iblk, wdx t]

/-- The line at batch `b` and position `s`, from the kernel's arguments. -/
def mline (b : Fin 8) (s : Fin 2048) (e : Fin 1024) : EReal :=
  line (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) b s e

theorem tline_eq (t : Fin cfg0.N) (s : Fin 512) (e : Fin 1024) :
    tline (iblk m c 0 t) (iblk m c 1 t) (iblk m c 2 t) (iblk m c 3 t) (iblk m c 6 t) (iblk m c 7 t) (iblk m c 8 t)
      (iblk m c 9 t) (iblk m c 10 t) (iblk m c 11 t) s e = mline m c (bat t) (pos t s) e := by
  unfold tline mline line
  simp only [blk0, blk1, blk2, blk3, blk6, blk7, blk8, blk9, blk10, blk11]

/-- The modulated line, the next layer's input. -/
def nline (b : Fin 8) (s : Fin 2048) (e : Fin 1024) : EReal :=
  mline m c b s e * ((1 : EReal) + m ((c.tc : Thread nD τ).loc main_arg3) (ix4 b 4 0 e))
    + (m ((c.tc : Thread nD τ).loc main_arg3) (ix4 b 3 0 e) : EReal)

theorem mline_place {b b' : Fin 8} {s s' : Fin 2048} {e e' : Fin 1024} (h0 : b.val = b'.val) (h1 : s.val = s'.val)
    (h2 : e.val = e'.val) : mline m c b s e = mline m c b' s' e' := by
  rw [Fin.ext h0, Fin.ext h1, Fin.ext h2]

theorem nline_place {b b' : Fin 8} {s s' : Fin 2048} {e e' : Fin 1024} (h0 : b.val = b'.val) (h1 : s.val = s'.val)
    (h2 : e.val = e'.val) : nline m c b s e = nline m c b' s' e' := by
  rw [Fin.ext h0, Fin.ext h1, Fin.ext h2]

theorem whole12 : (dats m 0 c).arrAt 12 cfg0.N = fun x => mline m c (x 0) (x 1) (x 2) := by
  refine (dats m 0 c).arrAt_eq_of_covers 12 _ (by decide +kernel) fun t _ y => ?_
  have ht : t.val < 32 := t.isLt
  obtain ⟨i0, i1, i2⟩ := (odx t).1
  blk_simp
  rw [after0_12]
  obtain ⟨a, s, e, rfl⟩ : ∃ (a : Fin 1) (s : Fin 512) (e : Fin 1024), y = ix3 a s e := ⟨_, _, _, eq_ix3 y⟩
  obtain rfl : a = 0 := Subsingleton.elim _ _
  rw [out12_apply, tline_eq]
  refine mline_place m c ?_ ?_ ?_
  · blk_simp [i0]
    rfl
  · blk_simp [i1]
    rfl
  · blk_simp [i2]

theorem whole13 : (dats m 0 c).arrAt 13 cfg0.N = fun x => nline m c (x 0) (x 1) (x 2) := by
  refine (dats m 0 c).arrAt_eq_of_covers 13 _ (by decide +kernel) fun t _ y => ?_
  have ht : t.val < 32 := t.isLt
  obtain ⟨i0, i1, i2⟩ := (odx t).2
  blk_simp
  rw [after0_13]
  obtain ⟨a, s, e, rfl⟩ : ∃ (a : Fin 1) (s : Fin 512) (e : Fin 1024), y = ix3 a s e := ⟨_, _, _, eq_ix3 y⟩
  obtain rfl : a = 0 := Subsingleton.elim _ _
  rw [out13_apply, tline_eq, blk4, blk5]
  change nline m c (bat t) (pos t s) e = _
  refine nline_place m c ?_ ?_ ?_
  · blk_simp [i0]
    rfl
  · blk_simp [i1]
    rfl
  · blk_simp [i2]

end Cert.Kernel3Ideal.Out
-- ==== Proof.Ada.lean ====
module
public import proofs.«01_k».proof.Proof.Gen.Kernel4Ideal.Frame
public import proofs.«01_k».proof.Proof.Gen.Reference4Ideal.Read
public import Idealize.ShloMosaic.Lib.Pointwise
public import Idealize.ShloMosaic.Lib.Pipeline.ValueKit
public import Idealize.ShloMosaic.Lib.Claim
@[expose] public section

/-!
The modulation rows: the kernel's six column tiles are the columns of the reference's product.
-/

set_option maxRecDepth 16384

noncomputable section

open Idealize.ShloMosaic Idealize.ShloMosaic.TcCoe Idealize.SL.Sem
open Idealize.ShloMosaic.Pipeline (Dat)

namespace Cert.Modulation

/-- A gated condition against a column of weights, plus that column's bias. -/
def entry (f w : Fin 1024 → EReal) (k : EReal) : EReal := (∑ e, f e * Ideal.logistic (f e) * w e) + k

end Cert.Modulation

open Cert.Modulation

namespace Cert.Reference4Ideal.Ada
open Cert.Reference4Ideal Cert.Reference4Ideal.Gen Cert.Reference4Ideal.Read

variable (x0 : Vec Ideal S8x1024 .f32) (x1 : Vec Ideal S1024x6144 .f32) (x2 : Vec Ideal S6144 .f32)

/-- The modulation of batch `b` in column `r`, from the whole arrays. -/
def whole (b : Fin 8) (r : Fin 6144) : EReal :=
  entry (fun e => x0 (ix2 b e)) (fun e => x1 (ix2 e r)) (x2 (ix1 r))

theorem result_apply (b : Fin 8) (r : Fin 6144) :
    val_main_v4 (F := Ideal) x0 x1 x2 (ix2 b r) = whole x0 x1 x2 b r := by
  unfold whole entry Ideal.logistic
  pointwise [val_main_v4, val_main_v3, val_main_v2, val_main_v1, val_main_v0, val_main_call0_v5, val_main_call0_v4,
    val_main_call0_v3, val_main_call0_v2, val_main_call0_v1, val_main_call0_v0, val_main_call0_cst, val_main_call0_cst_0]

theorem whole_place {b b' : Fin 8} {r r' : Fin 6144} (h0 : b.val = b'.val) (h1 : r.val = r'.val) :
    whole x0 x1 x2 b r = whole x0 x1 x2 b' r' := by
  rw [Fin.ext h0, Fin.ext h1]

end Cert.Reference4Ideal.Ada

namespace Cert.Kernel4Ideal.Ada
open Cert.Kernel4Ideal Cert.Kernel4Ideal.Gen

theorem out3_apply (x0 : Vec Ideal S8x1024 .f32) (x1 : Vec Ideal S1024x1024 .f32) (x2 : Vec Ideal S1x1024 .f32)
    (b : Fin 8) (r : Fin 1024) :
    out0_3 x0 x1 x2 (ix2 b r) = entry (fun e => x0 (ix2 b e)) (fun e => x1 (ix2 e r)) (x2 (ix2 0 r)) := by
  unfold entry
  frame_out
  pointwise [k0_pay1]

theorem idx : ∀ t : Fin cfg0.N,
    (win0_0.index t 0 = 0 ∧ win0_0.index t 1 = 0) ∧ (win0_1.index t 0 = 0 ∧ win0_1.index t 1 = t.val) ∧
    (win0_2.index t 0 = 0 ∧ win0_2.index t 1 = t.val) ∧ (win0_3.index t 0 = 0 ∧ win0_3.index t 1 = t.val) :=
  (by decide +kernel : ∀ t : Fin grid0.N, _)

variable (m : (ℓ : Loc nD τ sig) → Buf (Elt Ideal) ℓ) (c : Dev nD)

theorem blk0 (t : Fin cfg0.N) (b : Fin 8) (e : Fin 1024) :
    iblk m c 0 t (ix2 b e) = m ((c.tc : Thread nD τ).loc main_arg0) (ix2 b e) := by
  blk_point [iblk, V, idx t]

theorem blk1 (t : Fin cfg0.N) (e r : Fin 1024) :
    iblk m c 1 t (ix2 e r) = m ((c.tc : Thread nD τ).loc main_arg1)
      (ix2 e ⟨t.val * 1024 + r.val, by have : t.val < 6 := t.isLt; omega⟩) := by
  blk_point [iblk, V, idx t]

/-- The bias as the host's one row. -/
theorem V0 (r : Fin 6144) : V m c main_v0 (ix2 0 r) = m ((c.tc : Thread nD τ).loc main_arg2) (ix1 r) := by
  entry_read
  pointwise []

theorem blk2 (t : Fin cfg0.N) (r : Fin 1024) :
    iblk m c 2 t (ix2 0 r) = m ((c.tc : Thread nD τ).loc main_arg2)
      (ix1 ⟨t.val * 1024 + r.val, by have : t.val < 6 := t.isLt; omega⟩) := by
  refine Eq.trans ?_ (V0 m c _)
  blk_point [iblk, idx t]

theorem whole3 : (dats m 0 c).arrAt 3 cfg0.N = fun x => Cert.Reference4Ideal.Ada.whole
    (m ((c.tc : Thread nD τ).loc main_arg0)) (m ((c.tc : Thread nD τ).loc main_arg1))
    (m ((c.tc : Thread nD τ).loc main_arg2)) (x 0) (x 1) := by
  refine (dats m 0 c).arrAt_eq_of_covers 3 _ (by decide +kernel) fun t _ y => ?_
  have ht : t.val < 6 := t.isLt
  obtain ⟨i0, i1⟩ := (idx t).2.2.2
  blk_simp
  rw [after0_3]
  obtain ⟨b, r, rfl⟩ : ∃ (b : Fin 8) (r : Fin 1024), y = ix2 b r := ⟨_, _, eq_ix2 y⟩
  rw [out3_apply]
  simp only [blk0, blk1, blk2]
  refine Cert.Reference4Ideal.Ada.whole_place _ _ _ (b := b)
    (r := ⟨t.val * 1024 + r.val, by omega⟩) ?_ ?_
  · blk_simp [i0]
  · blk_simp [i1]

end Cert.Kernel4Ideal.Ada

end
-- ==== Proof.Bucket.lean ====
module
public import Idealize.ShloMosaic.Lib.Pointwise
public import Mathlib.Analysis.Complex.Exponential
public import Mathlib.Analysis.SpecialFunctions.Log.Basic
@[expose] public section

/-!
The bucket of a distance: the reference's logarithm agrees with the kernel's table of least distances.
-/

set_option maxRecDepth 16384

noncomputable section

open Idealize.ShloMosaic

namespace Cert.Bucket

/-- The least distance of each bucket. -/
def lo (b : ℕ) : ℕ :=
  [0, 1, 2, 3, 4, 5, 6, 7, 8, 9, 10, 11, 12, 13, 14, 15, 16, 22, 30, 40, 54, 73, 99, 134, 182, 246, 332, 450, 609, 825,
    1117, 1513].getD b 0

/-- The divisor, a number close to the logarithm of 128. -/
abbrev dv : ℝ := 10175445 / 2097152

/-- The logarithm of two, from the first terms of the exponential's series. -/
theorem log_two : (6931471 / 10000000 : ℝ) < Real.log 2 ∧ Real.log 2 < (6931473 / 10000000 : ℝ) := by
  constructor
  · rw [Real.lt_log_iff_exp_lt (by norm_num)]
    have h := Real.exp_bound (x := 6931471 / 10000000) (by rw [abs_le]; constructor <;> norm_num) (n := 12) (by norm_num)
    rw [abs_le] at h
    norm_num [Finset.sum_range_succ, Nat.factorial] at h
    linarith [h.2]
  · rw [Real.log_lt_iff_lt_exp (by norm_num)]
    have h := Real.exp_bound (x := 6931473 / 10000000) (by rw [abs_le]; constructor <;> norm_num) (n := 12) (by norm_num)
    rw [abs_le] at h
    norm_num [Finset.sum_range_succ, Nat.factorial] at h
    linarith [h.1]

theorem dv_near : 7 * Real.log 2 - 2 / 1000000 < dv ∧ dv < 7 * Real.log 2 + 2 / 1000000 := by
  obtain ⟨h1, h2⟩ := log_two
  constructor
  · linarith [show (7 * (6931473 / 10000000) - 2 / 1000000 : ℝ) < dv by norm_num [dv]]
  · linarith [show (dv : ℝ) < 7 * (6931471 / 10000000) + 2 / 1000000 by norm_num [dv]]

/-- How far `n` lies from the `k`-th power of two of the logarithm. -/
theorem log_ratio {n : ℕ} (hn : 0 < n) (k : ℕ) :
    Real.log ((n : ℝ) ^ 16 / 2 ^ (64 + 7 * k)) = 16 * Real.log ((n : ℝ) / 16) - k * (7 * Real.log 2) := by
  have hn' : (n : ℝ) ≠ 0 := by positivity
  rw [Real.log_div (by positivity) (by positivity), Real.log_pow, Real.log_pow, Real.log_div hn' (by norm_num),
    show (16 : ℝ) = 2 ^ 4 by norm_num, Real.log_pow]
  push_cast
  ring

theorem above {n k : ℕ} (hn : 0 < n) (hk : k ≤ 15) (h : 10001 * 2 ^ (64 + 7 * k) ≤ 10000 * n ^ 16) :
    k * dv ≤ 16 * Real.log ((n : ℝ) / 16) := by
  have hr : (10001 : ℝ) * 2 ^ (64 + 7 * k) ≤ 10000 * (n : ℝ) ^ 16 := by exact_mod_cast h
  have hp : (0 : ℝ) < 2 ^ (64 + 7 * k) := by positivity
  have hx : (10001 / 10000 : ℝ) ≤ (n : ℝ) ^ 16 / 2 ^ (64 + 7 * k) := by
    rw [le_div_iff₀ hp]; linarith
  have hl := Real.one_sub_inv_le_log_of_pos (lt_of_lt_of_le (by norm_num) hx)
  have hi : ((n : ℝ) ^ 16 / 2 ^ (64 + 7 * k))⁻¹ ≤ (10001 / 10000 : ℝ)⁻¹ := inv_anti₀ (by norm_num) hx
  rw [log_ratio hn] at hl
  have hk' : (k : ℝ) ≤ 15 := by exact_mod_cast hk
  have hk0 : (0 : ℝ) ≤ k := by positivity
  have hd := dv_near.2
  have hv : (10001 / 10000 : ℝ)⁻¹ ≤ 99991 / 100000 := by norm_num
  nlinarith

theorem below {n k : ℕ} (hn : 0 < n) (hk : k ≤ 15) (h : 10000 * n ^ 16 ≤ 9999 * 2 ^ (64 + 7 * k)) :
    16 * Real.log ((n : ℝ) / 16) < k * dv := by
  have hr : (10000 : ℝ) * (n : ℝ) ^ 16 ≤ 9999 * 2 ^ (64 + 7 * k) := by exact_mod_cast h
  have hp : (0 : ℝ) < 2 ^ (64 + 7 * k) := by positivity
  have hn' : (0 : ℝ) < n := by exact_mod_cast hn
  have hx : (n : ℝ) ^ 16 / 2 ^ (64 + 7 * k) ≤ (9999 / 10000 : ℝ) := by
    rw [div_le_iff₀ hp]; linarith
  have hl := Real.log_le_sub_one_of_pos (x := (n : ℝ) ^ 16 / 2 ^ (64 + 7 * k)) (by positivity)
  rw [log_ratio hn] at hl
  have hk' : (k : ℝ) ≤ 15 := by exact_mod_cast hk
  have hk0 : (0 : ℝ) ≤ k := by positivity
  have hd := dv_near.1
  nlinarith

/-- The least distances are the powers' ceilings, with room to spare. -/
theorem lo_room : ∀ k < 15, 10001 * 2 ^ (64 + 7 * (k + 1)) ≤ 10000 * lo (17 + k) ^ 16
    ∧ 10000 * (lo (17 + k) - 1) ^ 16 ≤ 9999 * 2 ^ (64 + 7 * (k + 1)) := by decide +kernel

/-- The bucket's whole part of a distance of at least 16. -/
theorem part {n k : ℕ} (hk : k < 16) (h0 : lo (16 + k) ≤ n) (h1 : k < 15 → n < lo (17 + k)) (h2 : 16 ≤ n) :
    (k : ℝ) ≤ Real.log ((n : ℝ) / 16) / dv * 16 ∧ (k < 15 → Real.log ((n : ℝ) / 16) / dv * 16 < (k + 1 : ℕ)) := by
  have hd : (0 : ℝ) < dv := by norm_num [dv]
  have e : Real.log ((n : ℝ) / 16) / dv * 16 = 16 * Real.log ((n : ℝ) / 16) / dv := by ring
  rw [e, le_div_iff₀ hd]
  refine ⟨?_, fun h => ?_⟩
  · rcases Nat.eq_zero_or_pos k with rfl | hp
    · have : (1 : ℝ) ≤ (n : ℝ) / 16 := by
        rw [le_div_iff₀ (by norm_num)]; exact_mod_cast (by omega : 1 * 16 ≤ n)
      have := Real.log_nonneg this
      push_cast; linarith
    · obtain ⟨j, rfl⟩ : ∃ j, k = j + 1 := ⟨k - 1, by omega⟩
      refine above (by omega) (by omega) ((lo_room j (by omega)).1.trans (Nat.mul_le_mul_left _ (Nat.pow_le_pow_left ?_ _)))
      rwa [show 17 + j = 16 + (j + 1) by omega]
  · rw [div_lt_iff₀ hd]
    refine below (by omega) (by omega) (le_trans (Nat.mul_le_mul_left _ (Nat.pow_le_pow_left ?_ _)) (lo_room k h).2)
    have := h1 h
    omega

/-- The reference's bucket of a distance, as it is computed. -/
def bucket (d : BitVec 32) : BitVec 32 :=
  Scalar.select (IntOp.cmpi CmpIPredicate.slt (IntOp.maxsi d 0#32) 16#32)
      (IntOp.maxsi d 0#32)
      (IntOp.minsi
        (IntOp.addi (16#32)
          (FloatOps.fptosi (F := Ideal) (φ := .f32) 32
            (Ideal.div
                (Ideal.log
                  (Ideal.div (FloatOps.sitofp (F := Ideal) FTy.f32 (IntOp.maxsi (IntOp.maxsi d 0#32) 1#32))
                    (Ideal.ofBits FTy.f32 1098907648#32)))
                (Ideal.ofBits FTy.f32 1083917269#32) *
              Ideal.ofBits FTy.f32 1098907648#32)))
        31#32)

theorem sixteen : Ideal.ofBits .f32 1098907648#32 = ((16 : ℝ) : EReal) := by
  simp [Ideal.ofBits, Ideal.ieee, -EReal.coe_mul]; norm_num

theorem divisor : Ideal.ofBits .f32 1083917269#32 = ((dv : ℝ) : EReal) := by
  simp [Ideal.ofBits, Ideal.ieee, -EReal.coe_mul]; norm_num [dv]

theorem toInt_ofNat {n : ℕ} (hn : n < 2 ^ 31) : (BitVec.ofNat 32 n).toInt = n := by
  rw [BitVec.toInt_eq_toNat_cond, BitVec.toNat_ofNat, Nat.mod_eq_of_lt (by omega), if_pos (by omega)]

theorem slt_ofNat {n k : ℕ} (hn : n < 2 ^ 31) (hk : k < 2 ^ 31) :
    (BitVec.ofNat 32 n).slt (BitVec.ofNat 32 k) = decide (n < k) := by
  rw [BitVec.slt, toInt_ofNat hn, toInt_ofNat hk]
  exact decide_eq_decide.2 (by omega)

theorem maxsi_ofNat {n k : ℕ} (hn : n < 2 ^ 31) (hk : k < 2 ^ 31) :
    IntOp.maxsi (BitVec.ofNat 32 n) (BitVec.ofNat 32 k) = BitVec.ofNat 32 (max n k) := by
  rw [IntOp.maxsi, slt_ofNat hk hn]
  by_cases h : k < n
  · rw [if_pos (by simpa using h), max_eq_left h.le]
  · rw [if_neg (by simpa using h), max_eq_right (by omega)]

theorem minsi_ofNat {n k : ℕ} (hn : n < 2 ^ 31) (hk : k < 2 ^ 31) :
    IntOp.minsi (BitVec.ofNat 32 n) (BitVec.ofNat 32 k) = BitVec.ofNat 32 (min n k) := by
  rw [IntOp.minsi, slt_ofNat hn hk]
  by_cases h : n < k
  · rw [if_pos (by simpa using h), min_eq_left h.le]
  · rw [if_neg (by simpa using h), min_eq_right (by omega)]

/-- A choice by whether a distance lies below a bound. -/
theorem select_slt {n k : ℕ} (hn : n < 2 ^ 31) (hk : k < 2 ^ 31) {α : Type} (a b : α) :
    Scalar.select (IntOp.cmpi CmpIPredicate.slt (BitVec.ofNat 32 n) (BitVec.ofNat 32 k)) a b = if n < k then a else b := by
  have e : IntOp.cmpi CmpIPredicate.slt (BitVec.ofNat 32 n) (BitVec.ofNat 32 k) = BitVec.ofBool (decide (n < k)) :=
    congrArg BitVec.ofBool (slt_ofNat hn hk)
  rw [Scalar.select, e]
  by_cases h : n < k <;> simp [h]

/-- The whole part of a real, as a word. -/
theorem fptosi_coe {r : ℝ} (h0 : 0 ≤ r) (h1 : r < 2 ^ 30) :
    FloatOps.fptosi (F := Ideal) (φ := .f32) 32 ((r : ℝ) : EReal) = BitVec.ofNat 32 ⌊r⌋₊ := by
  have hf : ⌊r⌋ = (⌊r⌋₊ : ℤ) := (Int.natCast_floor_eq_floor h0).symm
  have hb : ⌊r⌋₊ < 2 ^ 30 := (Nat.floor_lt h0).2 (by exact_mod_cast h1)
  show BitVec.ofInt 32 (max (-(2 ^ (32 - 1) : Nat) : ℤ) (min (((2 ^ (32 - 1) : Nat) : ℤ) - 1) (if 0 ≤ r then ⌊r⌋ else ⌈r⌉))) = _
  rw [if_pos h0, hf, min_eq_right (by push_cast; omega), max_eq_right (by push_cast; omega), BitVec.ofInt_natCast]

/-- The logarithm's number of a distance of at least 16. -/
theorem number {n : ℕ} (hn : 16 ≤ n) (hb : n < 2 ^ 31) :
    Ideal.div (Ideal.log (Ideal.div (FloatOps.sitofp (F := Ideal) FTy.f32 (BitVec.ofNat 32 n)) (Ideal.ofBits FTy.f32 1098907648#32)))
        (Ideal.ofBits FTy.f32 1083917269#32) * Ideal.ofBits FTy.f32 1098907648#32
      = ((Real.log ((n : ℝ) / 16) / dv * 16 : ℝ) : EReal) := by
  have hd : dv ≠ 0 := by norm_num [dv]
  have hp : ¬ ((n : ℝ) / 16 ≤ 0) := by
    rw [not_le]; have : (0 : ℝ) < n := by exact_mod_cast (by omega : 0 < n)
    positivity
  rw [show FloatOps.sitofp (F := Ideal) FTy.f32 (BitVec.ofNat 32 n) = ((n : ℝ) : EReal) from by
      show (((BitVec.ofNat 32 n).toInt : ℝ) : EReal) = _
      rw [toInt_ofNat hb]; norm_cast,
    sixteen, divisor, Ideal.div_coe hd, Ideal.div_coe (show (16 : ℝ) ≠ 0 by norm_num), ← EReal.coe_mul, mul_one_div,
    Ideal.log_coe, if_neg hp, ← EReal.coe_mul, ← EReal.coe_mul, mul_one_div]

theorem bucket_eq {n b : ℕ} (hb : b < 32) (hn : n ≤ 4096) (h0 : lo b ≤ n) (h1 : b < 31 → n < lo (b + 1)) :
    bucket (BitVec.ofNat 32 n) = BitVec.ofNat 32 b := by
  unfold bucket
  rw [maxsi_ofNat (k := 0) (by omega) (by omega), max_eq_left (Nat.zero_le n), select_slt (by omega) (by omega)]
  by_cases hs : n < 16
  · rw [if_pos hs]
    have : ∀ b < 32, ∀ n < 16, lo b ≤ n → (b < 31 → n < lo (b + 1)) → n = b := by decide +kernel
    rw [this b hb n hs h0 h1]
  · rw [if_neg hs, maxsi_ofNat (k := 1) (by omega) (by omega), max_eq_left (by omega), number (by omega) (by omega)]
    have hl : ∀ b < 16, lo (b + 1) ≤ 16 := by decide +kernel
    obtain ⟨k, rfl⟩ : ∃ k, b = 16 + k := ⟨b - 16, by
      by_contra hc
      have := hl b (by omega)
      have := h1 (by omega)
      omega⟩
    obtain ⟨p0, p1⟩ := part (by omega : k < 16) h0 (fun h => by have := h1 (by omega); rwa [show 16 + k + 1 = 17 + k by omega] at this) (by omega)
    have hr0 : (0 : ℝ) ≤ Real.log ((n : ℝ) / 16) / dv * 16 := le_trans (by positivity) p0
    have hr1 : Real.log ((n : ℝ) / 16) / dv * 16 < 2 ^ 20 := by
      have hn' : (n : ℝ) ≤ 4096 := by exact_mod_cast hn
      have hp : (0 : ℝ) < (n : ℝ) / 16 := by
        have : (0 : ℝ) < n := by exact_mod_cast (by omega : 0 < n)
        positivity
      have := Real.log_le_sub_one_of_pos hp
      rw [div_mul_eq_mul_div, div_lt_iff₀ (by norm_num [dv])]
      norm_num [dv]; linarith
    rw [fptosi_coe hr0 (hr1.trans (by norm_num))]
    have hf : ⌊Real.log ((n : ℝ) / 16) / dv * 16⌋₊ < 2 ^ 20 := (Nat.floor_lt hr0).2 (by exact_mod_cast hr1)
    have hk : k ≤ ⌊Real.log ((n : ℝ) / 16) / dv * 16⌋₊ := Nat.le_floor p0
    have hk1 : k < 15 → ⌊Real.log ((n : ℝ) / 16) / dv * 16⌋₊ < k + 1 := fun h => (Nat.floor_lt hr0).2 (p1 h)
    generalize ⌊Real.log ((n : ℝ) / 16) / dv * 16⌋₊ = f at hf hk hk1
    rw [show IntOp.addi (16#32) (BitVec.ofNat 32 f) = BitVec.ofNat 32 (16 + f) from (BitVec.ofNat_add 16 f).symm,
      minsi_ofNat (by omega) (by omega)]
    congr 1
    omega

/-- A table's entries chosen one after the other, from bucket `b` on through `k` more. -/
def look (T : ℕ → EReal) (n : ℕ) : ℕ → ℕ → EReal
  | b, 0 => T b
  | b, k + 1 => if n < lo (b + 1) then T b else look T n (b + 1) k

theorem look_eq (T : ℕ → EReal) {n : ℕ} (hn : n ≤ 4096) (k : ℕ) : ∀ b, b + k < 32 → lo b ≤ n →
    (b + k < 31 → n < lo (b + k + 1)) → look T n b k = T (bucket (BitVec.ofNat 32 n)).toNat := by
  have key : ∀ b < 32, lo b ≤ n → (b < 31 → n < lo (b + 1)) → T b = T (bucket (BitVec.ofNat 32 n)).toNat := by
    intro b hb h0 h1
    rw [bucket_eq hb hn h0 h1, BitVec.toNat_ofNat, Nat.mod_eq_of_lt (by omega)]
  induction k with
  | zero => exact fun b hb h0 h1 => key b hb h0 h1
  | succ k ih =>
    intro b hb h0 h1
    rw [look]
    by_cases h : n < lo (b + 1)
    · rw [if_pos h]; exact key b (by omega) h0 (fun _ => h)
    · rw [if_neg h]
      refine ih (b + 1) (by omega) (by omega) fun h => ?_
      have := h1 (by omega)
      rwa [show b + (k + 1) + 1 = b + 1 + k + 1 by omega] at this

/-- A bucket is one of the table's 32. -/
theorem bucket_lt {n : ℕ} (hn : n ≤ 4096) : (bucket (BitVec.ofNat 32 n)).toNat < 32 := by
  have h := look_eq (fun b => ((b : ℝ) : EReal)) hn 31 0 (by omega) (Nat.zero_le n) (by omega)
  have hk : ∀ k b, b + k ≤ 31 → ∃ j : ℕ, j < 32 ∧ look (fun b => ((b : ℝ) : EReal)) n b k = ((j : ℝ) : EReal) := by
    intro k
    induction k with
    | zero => exact fun b hb => ⟨b, by omega, rfl⟩
    | succ k ih =>
      intro b hb
      rw [look]
      split
      · exact ⟨b, by omega, rfl⟩
      · exact ih (b + 1) (by omega)
  obtain ⟨j, hj, e⟩ := hk 31 0 (by omega)
  rw [e] at h
  have : j = (bucket (BitVec.ofNat 32 n)).toNat := by exact_mod_cast h
  omega

theorem bucket_toInt {n : ℕ} (hn : n ≤ 4096) :
    (bucket (BitVec.ofNat 32 n)).toInt.toNat = (bucket (BitVec.ofNat 32 n)).toNat := by
  have h := bucket_lt hn
  generalize bucket (BitVec.ofNat 32 n) = w at h
  rw [BitVec.toInt_eq_toNat_cond, if_pos (by omega), Int.toNat_natCast]

theorem add_ofNat (a b : ℕ) : IntOp.addi (BitVec.ofNat 32 a) (BitVec.ofNat 32 b) = BitVec.ofNat 32 (a + b) :=
  (BitVec.ofNat_add a b).symm

theorem mul_ofNat (a b : ℕ) : IntOp.muli (BitVec.ofNat 32 a) (BitVec.ofNat 32 b) = BitVec.ofNat 32 (a * b) :=
  (BitVec.ofNat_mul a b).symm

theorem sub_ofNat {a k : ℕ} (h : k ≤ a) (ha : a < 2 ^ 31) :
    IntOp.subi (BitVec.ofNat 32 a) (BitVec.ofNat 32 k) = BitVec.ofNat 32 (a - k) := by
  refine BitVec.eq_of_toNat_eq ?_
  show (BitVec.ofNat 32 a - BitVec.ofNat 32 k).toNat = _
  rw [BitVec.toNat_sub, BitVec.toNat_ofNat, BitVec.toNat_ofNat, BitVec.toNat_ofNat]
  omega

/-- Whether a difference is not negative. -/
theorem sge_sub {a k : ℕ} (ha : a < 2 ^ 30) (hk : k < 2 ^ 30) :
    IntOp.cmpi CmpIPredicate.sge (IntOp.subi (BitVec.ofNat 32 a) (BitVec.ofNat 32 k)) 0#32 = BitVec.ofBool (decide (k ≤ a)) := by
  refine congrArg BitVec.ofBool ?_
  show (0#32).sle (IntOp.subi (BitVec.ofNat 32 a) (BitVec.ofNat 32 k)) = _
  rw [BitVec.sle, show (0#32).toInt = 0 by decide]
  refine decide_eq_decide.2 ?_
  by_cases h : k ≤ a
  · rw [sub_ofNat h (by omega), toInt_ofNat (by omega)]
    exact iff_of_true (by omega) h
  · have e : IntOp.subi (BitVec.ofNat 32 a) (BitVec.ofNat 32 k) = BitVec.ofNat 32 (2 ^ 32 - (k - a)) := by
      refine BitVec.eq_of_toNat_eq ?_
      show (BitVec.ofNat 32 a - BitVec.ofNat 32 k).toNat = _
      rw [BitVec.toNat_sub, BitVec.toNat_ofNat, BitVec.toNat_ofNat, BitVec.toNat_ofNat]
      omega
    rw [e, BitVec.toInt_eq_toNat_cond, BitVec.toNat_ofNat, Nat.mod_eq_of_lt (by omega), if_neg (by omega)]
    exact iff_of_false (by omega) h

theorem sle_ofNat {n k : ℕ} (hn : n < 2 ^ 31) (hk : k < 2 ^ 31) :
    IntOp.cmpi CmpIPredicate.sle (BitVec.ofNat 32 n) (BitVec.ofNat 32 k) = BitVec.ofBool (decide (n ≤ k)) := by
  refine congrArg BitVec.ofBool ?_
  show (BitVec.ofNat 32 n).sle (BitVec.ofNat 32 k) = _
  rw [BitVec.sle, toInt_ofNat hn, toInt_ofNat hk]
  exact decide_eq_decide.2 (by omega)

/-- The masks' number. -/
def mask : EReal := Ideal.ofBits .f32 4048155338#32

/-- The table at the distance from `k` to `a`, masked where `k` lies after `a`. -/
def past (T : ℕ → EReal) (a k : ℕ) : EReal := if k ≤ a then T (bucket (BitVec.ofNat 32 (a - k))).toNat else mask

/-- The table at a multiple of the distance, masked outside the band. -/
def band (T : ℕ → EReal) (dil a k : ℕ) : EReal :=
  if k ≤ a ∧ a - k ≤ 128 then T (bucket (BitVec.ofNat 32 ((a - k) * dil))).toNat else mask

/-- A choice by the first mask, of any value that agrees with the table where it counts. -/
theorem past_eq {T : ℕ → EReal} {a k : ℕ} (ha : a < 2 ^ 30) (hk : k < 2 ^ 30) {v : EReal}
    (hv : k ≤ a → v = T (bucket (BitVec.ofNat 32 (a - k))).toNat) :
    Scalar.select (IntOp.cmpi CmpIPredicate.sge (IntOp.subi (BitVec.ofNat 32 a) (BitVec.ofNat 32 k)) 0#32) v mask = past T a k := by
  rw [sge_sub ha hk, Scalar.select, past]
  by_cases h : k ≤ a
  · simp [h, hv h]
  · simp [h]

theorem band_eq {T : ℕ → EReal} {dil a k : ℕ} (ha : a < 2 ^ 30) (hk : k < 2 ^ 30) {v : EReal}
    (hv : k ≤ a → a - k ≤ 128 → v = T (bucket (BitVec.ofNat 32 ((a - k) * dil))).toNat) :
    Scalar.select (IntOp.andi (IntOp.cmpi CmpIPredicate.sge (IntOp.subi (BitVec.ofNat 32 a) (BitVec.ofNat 32 k)) 0#32)
      (IntOp.cmpi CmpIPredicate.sle (IntOp.subi (BitVec.ofNat 32 a) (BitVec.ofNat 32 k)) 128#32)) v mask = band T dil a k := by
  rw [sge_sub ha hk, band]
  by_cases h : k ≤ a
  · rw [sub_ofNat h (by omega), sle_ofNat (k := 128) (by omega) (by omega), Scalar.select, IntOp.andi]
    by_cases h' : a - k ≤ 128
    · simp [h, h', hv h h']
    · simp [h, h']
  · simp [h, Scalar.select, IntOp.andi]

/-- The same choices, as the words' comparisons. -/
def chain (T : ℕ → EReal) (d : BitVec 32) : ℕ → ℕ → EReal
  | b, 0 => T b
  | b, k + 1 => Scalar.select (IntOp.cmpi CmpIPredicate.slt d (BitVec.ofNat 32 (lo (b + 1)))) (T b) (chain T d (b + 1) k)

theorem chain_look (T : ℕ → EReal) {n : ℕ} (hn : n < 2 ^ 31) (k : ℕ) :
    ∀ b, b + k < 32 → chain T (BitVec.ofNat 32 n) b k = look T n b k := by
  have hl : ∀ b < 32, lo b < 2 ^ 31 := by decide +kernel
  induction k with
  | zero => exact fun b hb => rfl
  | succ k ih =>
    intro b hb
    rw [chain, look, select_slt hn (hl _ (by omega)), ih (b + 1) (by omega)]

theorem chain_eq (T : ℕ → EReal) {n : ℕ} (hn : n ≤ 4096) {b k : ℕ} (hb : b + k < 32) (h0 : lo b ≤ n)
    (h1 : b + k < 31 → n < lo (b + k + 1)) :
    chain T (BitVec.ofNat 32 n) b k = T (bucket (BitVec.ofNat 32 n)).toNat := by
  rw [chain_look T (by omega) k b hb, look_eq T hn k b hb h0 h1]

/-- The distance between query `q` of a block `s` positions on and key `k`, as a word. -/
abbrev gap (s q k : ℕ) : BitVec 32 :=
  IntOp.subi (IntOp.addi (BitVec.ofNat 32 s) (BitVec.ofNat 32 q)) (BitVec.ofNat 32 k)

/-- A tile all of whose keys lie before its queries. -/
theorem past_tile (T : ℕ → EReal) {s q k : ℕ} (b j : ℕ) (hq : q < 256) (hk : k < 256) (hs : s ≤ 1792) (hb : b + j < 32)
    (h0 : lo b + 255 ≤ s) (h1 : b + j = 31 ∨ s + 255 < lo (b + j + 1)) :
    chain T (gap s q k) b j = past T (s + q) k := by
  rw [gap, add_ofNat, sub_ofNat (by omega) (by omega), past, if_pos (by omega),
    chain_eq T (by omega) hb (by omega) (by omega)]

/-- A tile on the diagonal. -/
theorem mask_tile (T : ℕ → EReal) {s q k : ℕ} (j : ℕ) (hq : q < 256) (hk : k < 256) (hs : s ≤ 1792) (hb : j < 32)
    (h1 : j = 31 ∨ s + 255 < lo (0 + j + 1)) :
    Scalar.select (IntOp.cmpi CmpIPredicate.sge (gap s q k) 0#32) (chain T (gap s q k) 0 j) mask = past T (s + q) k := by
  rw [gap, add_ofNat]
  refine past_eq (by omega) (by omega) fun h => ?_
  rw [sub_ofNat h (by omega), chain_eq T (by omega) (by omega) (Nat.zero_le _) (by omega)]

/-- A band's tile. -/
theorem band_tile (T : ℕ → EReal) {s q k : ℕ} (j dil : ℕ) (hq : q < 256) (hk : k < 256) (hs : s ≤ 1792) (hd : dil ≤ 16)
    (hb : j < 32) (h1 : j = 31 ∨ 128 * dil < lo (0 + j + 1)) :
    Scalar.select (IntOp.andi (IntOp.cmpi CmpIPredicate.sge (gap s q k) 0#32) (IntOp.cmpi CmpIPredicate.sle (gap s q k) 128#32))
      (chain T (IntOp.muli (gap s q k) (BitVec.ofNat 32 dil)) 0 j) mask = band T dil (s + q) k := by
  rw [gap, add_ofNat]
  refine band_eq (by omega) (by omega) fun h h' => ?_
  have hm : (s + q - k) * dil ≤ 128 * dil := Nat.mul_le_mul_right _ h'
  rw [sub_ofNat h (by omega), mul_ofNat, chain_eq T (by omega) (by omega) (Nat.zero_le _) (by omega)]

end Cert.Bucket

end
-- ==== Proof.RefBias.lean ====
module
public import proofs.«01_k».proof.Proof.Gen.Reference5Ideal.Read
public import proofs.«01_k».proof.Proof.Bucket
@[expose] public section

/-!
The reference's biases, entry by entry.
-/

set_option maxRecDepth 16384

noncomputable section

open Idealize.ShloMosaic Idealize.ShloMosaic.TcCoe Idealize.SL.Sem
open Cert.Reference5Ideal Cert.Reference5Ideal.Gen Cert.Reference5Ideal.Read Cert.Bucket

namespace Cert.Reference5Ideal.Bias
variable (x0 : Vec Ideal S16x32 .f32)

/-- A row of the table. -/
def row (r : Fin 16) (b : ℕ) : EReal := x0 (ix2 r ⟨b % 32, Nat.mod_lt _ (by omega)⟩)

theorem row_place {r r' : Fin 16} (h : r.val = r'.val) : row x0 r = row x0 r' := by rw [Fin.ext h]

/-- A sixteen-row table's row read by a gather of one of its halves. -/
abbrev gm := gather_S8x32_S8x256x256x1_S8x8x256x256_0_1_n_n_1_3_81
abbrev gd := gather_S8x32_S3x128x256x1_S8x3x128x256_0_1_n_n_1_3_81

theorem gm_start (h a : Fin 8) (k q : Fin 256) (r : Fin 1) (hr : r.val < gm.startIndexMap.length) :
    gm.siIdx (ix4 h a k q) ⟨r.val, hr⟩ = ix4 a k q r := by
  funext e
  match e with
  | ⟨0, _⟩ => rfl
  | ⟨1, _⟩ => rfl
  | ⟨2, _⟩ => rfl
  | ⟨3, _⟩ => rfl

theorem gd_start (h : Fin 8) (a : Fin 3) (k : Fin 128) (q : Fin 256) (r : Fin 1) (hr : r.val < gd.startIndexMap.length) :
    gd.siIdx (ix4 h a k q) ⟨r.val, hr⟩ = ix4 a k q r := by
  funext e
  match e with
  | ⟨0, _⟩ => rfl
  | ⟨1, _⟩ => rfl
  | ⟨2, _⟩ => rfl
  | ⟨3, _⟩ => rfl

theorem gm_apply (x : FVec Ideal S8x32 .f32) (idx : IVec S8x256x256x1 32) (h a : Fin 8) (k q : Fin 256) (n : ℕ)
    (hn : (idx (ix4 a k q 0)).toInt.toNat = n) (hl : n < 32) :
    Host.gather gm x idx (ix4 h a k q) = x (ix2 h ⟨n, hl⟩) := by
  unfold Host.gather
  refine congrArg x (funext fun e => Fin.ext ?_)
  match e with
  | ⟨0, _⟩ => show 0 + 0 + h.val = h.val; omega
  | ⟨1, _⟩ =>
    show min (idx (gm.siIdx (ix4 h a k q) ⟨(0 : Fin 1).val, by decide⟩)).toInt.toNat 31 + 0 + 0 = n
    rw [gm_start, hn]; omega

theorem gd_apply (x : FVec Ideal S8x32 .f32) (idx : IVec S3x128x256x1 32) (h : Fin 8) (a : Fin 3) (k : Fin 128) (q : Fin 256)
    (n : ℕ) (hn : (idx (ix4 a k q 0)).toInt.toNat = n) (hl : n < 32) :
    Host.gather gd x idx (ix4 h a k q) = x (ix2 h ⟨n, hl⟩) := by
  unfold Host.gather
  refine congrArg x (funext fun e => Fin.ext ?_)
  match e with
  | ⟨0, _⟩ => show 0 + 0 + h.val = h.val; omega
  | ⟨1, _⟩ =>
    show min (idx (gd.siIdx (ix4 h a k q) ⟨(0 : Fin 1).val, by decide⟩)).toInt.toNat 31 + 0 + 0 = n
    rw [gd_start, hn]; omega

theorem dist_apply (a : Fin 8) (k q : Fin 256) :
    val_main_v15 (F := Ideal) (ix3 a k q) = IntOp.subi (BitVec.ofNat 32 (a.val * 256 + q.val)) (BitVec.ofNat 32 k.val) := by
  rw [← add_ofNat, ← mul_ofNat]
  pointwise [val_main_v15, val_main_v14, val_main_v13, val_main_v12, val_main_v11, val_main_v10, val_main_v9, val_main_v8,
    val_main_v7, val_main_v6, val_main_v5, val_main_v4, val_main_v3, val_main_v2, val_main_c]

theorem off_apply (k : Fin 128) (q : Fin 256) :
    val_main_v46 (F := Ideal) (ix2 k q) = IntOp.subi (BitVec.ofNat 32 (128 + k.val)) (BitVec.ofNat 32 q.val) := by
  rw [← add_ofNat]
  pointwise [val_main_v46, val_main_v45, val_main_v44, val_main_v43, val_main_v42, val_main_v41, val_main_v40, val_main_v39,
    val_main_v38, val_main_c_7]

theorem bucket_moba (a : Fin 8) (k q : Fin 256) :
    val_main_v36 (F := Ideal) (ix4 a k q 0) = bucket (val_main_v15 (F := Ideal) (ix3 a k q)) := by
  unfold bucket
  pointwise [val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_v17, val_main_v16, val_main_c_6, val_main_c_5, val_main_c_4,
    val_main_c_1, val_main_c_0, val_main_cst_3, val_main_cst_2, val_main_cst]

theorem bucket_dil (a : Fin 3) (k : Fin 128) (q : Fin 256) :
    val_main_v96 (F := Ideal) (ix4 a k q 0) = bucket (val_main_v75 (F := Ideal) (ix3 a k q)) := by
  unfold bucket
  pointwise [val_main_v96, val_main_v95, val_main_v94, val_main_v93, val_main_v92, val_main_v91, val_main_v90, val_main_v89,
    val_main_v88, val_main_v87, val_main_v86, val_main_v85, val_main_v84, val_main_v83, val_main_v82, val_main_v81,
    val_main_v80, val_main_v79, val_main_v78, val_main_v77, val_main_v76, val_main_c_24, val_main_c_23, val_main_c_22,
    val_main_c_18, val_main_c_17, val_main_cst_21, val_main_cst_20, val_main_cst_19]

/-- A branch's dilation. -/
def dilation (a : Fin 3) : ℕ := 4 ^ a.val

theorem true_off (a : Fin 3) (k : Fin 128) (q : Fin 256) :
    val_main_v75 (F := Ideal) (ix3 a k q) = IntOp.muli (val_main_v46 (F := Ideal) (ix2 k q)) (BitVec.ofNat 32 (dilation a)) := by
  unfold val_main_v75
  pointwise [val_main_v74, val_main_v73, val_main_v72, val_main_v71, val_main_v70, val_main_v69, val_main_v68, val_main_v67,
    val_main_v66, val_main_c_14, val_main_c_15, val_main_c_16]
  match a with
  | ⟨0, _⟩ => rfl
  | ⟨1, _⟩ => rfl
  | ⟨2, _⟩ => rfl

/-- The block attention's bias of key `k` and query `q` at block distance `a`. -/
theorem moba_apply (h a : Fin 8) (k q : Fin 256) :
    val_main_v100 (F := Ideal) x0 (ix4 h a k q) = past (row x0 ⟨h.val, by omega⟩) (a.val * 256 + q.val) k.val := by
  have e : val_main_v100 (F := Ideal) x0 (ix4 h a k q) = Scalar.select (IntOp.cmpi CmpIPredicate.sge
      (val_main_v15 (F := Ideal) (ix3 a k q)) 0#32) (val_main_v37 (F := Ideal) x0 (ix4 h a k q)) mask := by
    unfold mask
    pointwise [val_main_v100, val_main_call2_v0, val_main_call2_v1, val_main_call2_v2, val_main_v99, val_main_v98,
      val_main_c_25, val_main_cst_26, id]
  rw [e, dist_apply]
  refine past_eq (by omega) (by omega) fun hk => ?_
  have hb := bucket_lt (n := a.val * 256 + q.val - k.val) (by omega)
  unfold val_main_v37
  rw [gm_apply _ _ h a k q _ (by rw [bucket_moba, dist_apply, sub_ofNat hk (by omega), bucket_toInt (by omega)]) hb]
  unfold row
  pointwise [val_main_v0]
  simp only [Nat.mod_eq_of_lt hb]

/-- The dilated attention's bias of query `k` and key `q` in branch `a`. -/
theorem dil_apply (h : Fin 8) (a : Fin 3) (k : Fin 128) (q : Fin 256) :
    val_main_v101 (F := Ideal) x0 (ix4 h a k q)
      = band (row x0 ⟨8 + h.val, by omega⟩) (dilation a) (128 + k.val) q.val := by
  have e : val_main_v101 (F := Ideal) x0 (ix4 h a k q) = Scalar.select (IntOp.andi
      (IntOp.cmpi CmpIPredicate.sge (val_main_v46 (F := Ideal) (ix2 k q)) 0#32)
      (IntOp.cmpi CmpIPredicate.sle (val_main_v46 (F := Ideal) (ix2 k q)) 128#32))
      (val_main_v97 (F := Ideal) x0 (ix4 h a k q)) mask := by
    unfold mask
    pointwise [val_main_v101, val_main_call3_v0, val_main_call3_v1, val_main_call3_v2, val_main_v65, val_main_v64,
      val_main_v63, val_main_v62, val_main_v61, val_main_v60, val_main_v59, val_main_v58, val_main_v57, val_main_v56,
      val_main_v55, val_main_v54, val_main_v53, val_main_v52, val_main_v51, val_main_v50, val_main_v49, val_main_v48,
      val_main_v47, val_main_c_8, val_main_c_9, val_main_c_10, val_main_c_11, val_main_c_12, val_main_c_13,
      val_main_cst_27, id]
    simp only [dite_eq_ite, ite_self]
  rw [e, off_apply]
  refine band_eq (by omega) (by omega) fun hk hb' => ?_
  have hd : dilation a ≤ 16 := Nat.pow_le_pow_right (n := 4) (by omega) (by omega : a.val ≤ 2)
  have hm : (128 + k.val - q.val) * dilation a ≤ 4096 := by nlinarith
  have hb := bucket_lt hm
  unfold val_main_v97
  rw [gd_apply _ _ h a k q _ (by
    rw [bucket_dil, true_off, off_apply, sub_ofNat hk (by omega), mul_ofNat, bucket_toInt hm]) hb]
  unfold row
  pointwise [val_main_v1]
  simp only [Nat.mod_eq_of_lt hb]

end Cert.Reference5Ideal.Bias

end
-- ==== Proof.Bias.lean ====
module
public import proofs.«01_k».proof.Proof.Gen.Kernel5Ideal.Frame
public import proofs.«01_k».proof.Proof.RefBias
public import Idealize.ShloMosaic.Lib.Pointwise
public import Idealize.ShloMosaic.Lib.Pipeline.ValueKit
public import Idealize.ShloMosaic.Lib.Claim
@[expose] public section

/-!
The kernel's bias tiles: each is a choice along the least distances, which is the reference's bucket.
-/

set_option maxRecDepth 16384

noncomputable section

open Idealize.ShloMosaic Idealize.ShloMosaic.TcCoe Idealize.SL.Sem
open Idealize.ShloMosaic.Pipeline (Dat)

namespace Cert.Kernel5Ideal.Bias
open Cert.Kernel5Ideal Cert.Kernel5Ideal.Gen Cert.Bucket
open Cert.Reference5Ideal.Bias (row dilation)

variable (m : (ℓ : Loc nD τ sig) → Buf (Elt Ideal) ℓ) (c : Dev nD)

theorem idx : ∀ t : Fin cfg0.N,
    (win0_0.index t 0 = 0 ∧ win0_0.index t 1 = 0) ∧
    (win0_1.index t 0 = t.val ∧ win0_1.index t 1 = 0 ∧ win0_1.index t 2 = 0 ∧ win0_1.index t 3 = 0) ∧
    (win0_2.index t 0 = t.val ∧ win0_2.index t 1 = 0 ∧ win0_2.index t 2 = 0 ∧ win0_2.index t 3 = 0) :=
  (by decide +kernel : ∀ t : Fin grid0.N, _)

/-- The rows of the table a grid point reads. -/
theorem rows : ∀ t : Fin cfg0.N, k0_off1 (grid0.coords t) 0 = t.val ∧ k0_off33 (grid0.coords t) 0 = 8 + t.val :=
  (by decide +kernel : ∀ t : Fin grid0.N, _)

theorem blk0 (t : Fin cfg0.N) (r : Fin 16) (b : Fin 32) :
    iblk m c 0 t (ix2 r b) = m ((c.tc : Thread nD τ).loc main_arg0) (ix2 r b) := by
  blk_point [iblk, V, idx t]

/-- The row of the block attention's head, as the kernel reads it, and the dilated attention's. -/
def near (t : Fin cfg0.N) (b : ℕ) : EReal :=
  iblk m c 0 t (ix2 (⟨k0_off1 (grid0.coords t) 0, by have := (rows t).1; have : t.val < 8 := t.isLt; omega⟩ : Fin 16)
    (⟨b % 32, Nat.mod_lt _ (by omega)⟩ : Fin 32))

def far (t : Fin cfg0.N) (b : ℕ) : EReal :=
  iblk m c 0 t (ix2 (⟨k0_off33 (grid0.coords t) 0, by have := (rows t).2; have : t.val < 8 := t.isLt; omega⟩ : Fin 16)
    (⟨b % 32, Nat.mod_lt _ (by omega)⟩ : Fin 32))

theorem near_eq (t : Fin cfg0.N) :
    near m c t = row (m ((c.tc : Thread nD τ).loc main_arg0)) ⟨t.val, by have : t.val < 8 := t.isLt; omega⟩ := by
  funext b
  unfold near row
  rw [blk0]
  simp only [(rows t).1]

theorem far_eq (t : Fin cfg0.N) :
    far m c t = row (m ((c.tc : Thread nD τ).loc main_arg0)) ⟨8 + t.val, by have : t.val < 8 := t.isLt; omega⟩ := by
  funext b
  unfold far row
  rw [blk0]
  simp only [(rows t).2]

theorem moba_tile (t : Fin cfg0.N) (a : Fin 8) (k q : Fin 256) :
    (outsAt0 m c t).1 (ix4 0 a k q) = past (near m c t) (a.val * 256 + q.val) k.val := by
  unfold outsAt0
  frame_out
  canon_tiles x h
  all_goals
    obtain ⟨e0, e1, k', q', rfl⟩ : ∃ (e0 e1 : Fin 1) (k' q' : Fin 256), x = ix4 e0 e1 k' q' := ⟨_, _, _, _, eq_ix4 x⟩
    obtain rfl : e0 = 0 := Subsingleton.elim _ _
    obtain rfl : e1 = 0 := Subsingleton.elim _ _
    have at_place : ∀ i : ℕ, a.val = i → past (near m c t) (i * 256 + q'.val) k'.val
        = past (near m c t) (a.val * 256 + q.val) k.val := by
      rintro i rfl
      congr 1
      · exact congrArg _ h3.symm
      · exact h2.symm
    pointwise [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61,
    k0_pay62, k0_pay63, k0_pay64]
  · exact (past_tile (near m c t) (s := 1792) 31 0 q'.isLt k'.isLt (by decide) (by decide) (by decide) (by decide)).trans (at_place 7 (by simpa using h1))
  · exact (past_tile (near m c t) (s := 1536) 30 1 q'.isLt k'.isLt (by decide) (by decide) (by decide) (by decide)).trans (at_place 6 (by simpa using h1))
  · exact (past_tile (near m c t) (s := 1280) 29 2 q'.isLt k'.isLt (by decide) (by decide) (by decide) (by decide)).trans (at_place 5 (by simpa using h1))
  · exact (past_tile (near m c t) (s := 1024) 28 2 q'.isLt k'.isLt (by decide) (by decide) (by decide) (by decide)).trans (at_place 4 (by simpa using h1))
  · exact (past_tile (near m c t) (s := 768) 27 2 q'.isLt k'.isLt (by decide) (by decide) (by decide) (by decide)).trans (at_place 3 (by simpa using h1))
  · exact (past_tile (near m c t) (s := 512) 25 3 q'.isLt k'.isLt (by decide) (by decide) (by decide) (by decide)).trans (at_place 2 (by simpa using h1))
  · exact (past_tile (near m c t) (s := 256) 1 26 q'.isLt k'.isLt (by decide) (by decide) (by decide) (by decide)).trans (at_place 1 (by simpa using h1))
  · exact (mask_tile (near m c t) (s := 0) 25 q'.isLt k'.isLt (by decide) (by decide) (by decide)).trans (at_place 0 (by simpa using h1))

theorem dil_tile (t : Fin cfg0.N) (a : Fin 3) (k : Fin 128) (q : Fin 256) :
    (outsAt0 m c t).2 (ix4 0 a k q) = band (far m c t) (dilation a) (128 + k.val) q.val := by
  unfold outsAt0
  frame_out
  canon_tiles x h
  all_goals
    obtain ⟨e0, e1, k', q', rfl⟩ : ∃ (e0 e1 : Fin 1) (k' : Fin 128) (q' : Fin 256), x = ix4 e0 e1 k' q' :=
      ⟨_, _, _, _, eq_ix4 x⟩
    obtain rfl : e0 = 0 := Subsingleton.elim _ _
    obtain rfl : e1 = 0 := Subsingleton.elim _ _
    have at_place : ∀ i : ℕ, a.val = i → band (far m c t) (4 ^ i) (128 + k'.val) q'.val
        = band (far m c t) (dilation a) (128 + k.val) q.val := by
      rintro i rfl
      unfold dilation
      congr 1
      · exact congrArg _ h2.symm
      · exact h3.symm
    pointwise [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61,
    k0_pay62, k0_pay63, k0_pay64]
  · exact (band_tile (far m c t) (s := 128) 31 16 (k'.isLt.trans (by decide)) q'.isLt (by decide) (by decide) (by decide) (by decide)).trans (at_place 2 (by simpa using h1))
  · exact (band_tile (far m c t) (s := 128) 27 4 (k'.isLt.trans (by decide)) q'.isLt (by decide) (by decide) (by decide) (by decide)).trans (at_place 1 (by simpa using h1))
  · exact (band_tile (far m c t) (s := 128) 22 1 (k'.isLt.trans (by decide)) q'.isLt (by decide) (by decide) (by decide) (by decide)).trans (at_place 0 (by simpa using h1))

/-- What the two results hold, from the table. -/
def moba (h a : Fin 8) (k q : Fin 256) : EReal :=
  past (row (m ((c.tc : Thread nD τ).loc main_arg0)) ⟨h.val, by omega⟩) (a.val * 256 + q.val) k.val

def dil (h : Fin 8) (a : Fin 3) (k : Fin 128) (q : Fin 256) : EReal :=
  band (row (m ((c.tc : Thread nD τ).loc main_arg0)) ⟨8 + h.val, by omega⟩) (dilation a) (128 + k.val) q.val

theorem moba_place {h h' a a' : Fin 8} {k k' q q' : Fin 256} (e0 : h.val = h'.val) (e1 : a.val = a'.val)
    (e2 : k.val = k'.val) (e3 : q.val = q'.val) : moba m c h a k q = moba m c h' a' k' q' := by
  rw [Fin.ext e0, Fin.ext e1, Fin.ext e2, Fin.ext e3]

theorem dil_place {h h' : Fin 8} {a a' : Fin 3} {k k' : Fin 128} {q q' : Fin 256} (e0 : h.val = h'.val)
    (e1 : a.val = a'.val) (e2 : k.val = k'.val) (e3 : q.val = q'.val) : dil m c h a k q = dil m c h' a' k' q' := by
  rw [Fin.ext e0, Fin.ext e1, Fin.ext e2, Fin.ext e3]

theorem whole1 : (dats m 0 c).arrAt 1 cfg0.N = fun x => moba m c (x 0) (x 1) (x 2) (x 3) := by
  refine (dats m 0 c).arrAt_eq_of_covers 1 _ (by decide +kernel) fun t _ y => ?_
  have ht : t.val < 8 := t.isLt
  obtain ⟨i0, i1, i2, i3⟩ := (idx t).2.1
  blk_simp
  rw [after0_1]
  obtain ⟨e, a, k, q, rfl⟩ : ∃ (e : Fin 1) (a : Fin 8) (k q : Fin 256), y = ix4 e a k q := ⟨_, _, _, _, eq_ix4 y⟩
  obtain rfl : e = 0 := Subsingleton.elim _ _
  rw [moba_tile, near_eq]
  refine moba_place m c (h := ⟨t.val, ht⟩) (a := a) (k := k) (q := q) ?_ ?_ ?_ ?_
  · blk_simp [i0]
    rfl
  · blk_simp [i1]
  · blk_simp [i2]
  · blk_simp [i3]

theorem whole2 : (dats m 0 c).arrAt 2 cfg0.N = fun x => dil m c (x 0) (x 1) (x 2) (x 3) := by
  refine (dats m 0 c).arrAt_eq_of_covers 2 _ (by decide +kernel) fun t _ y => ?_
  have ht : t.val < 8 := t.isLt
  obtain ⟨i0, i1, i2, i3⟩ := (idx t).2.2
  blk_simp
  rw [after0_2]
  obtain ⟨e, a, k, q, rfl⟩ : ∃ (e : Fin 1) (a : Fin 3) (k : Fin 128) (q : Fin 256), y = ix4 e a k q :=
    ⟨_, _, _, _, eq_ix4 y⟩
  obtain rfl : e = 0 := Subsingleton.elim _ _
  rw [dil_tile, far_eq]
  refine dil_place m c (h := ⟨t.val, ht⟩) (a := a) (k := k) (q := q) ?_ ?_ ?_ ?_
  · blk_simp [i0]
    rfl
  · blk_simp [i1]
  · blk_simp [i2]
  · blk_simp [i3]

end Cert.Kernel5Ideal.Bias

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Whole
public import proofs.«01_k».proof.Proof.RefOut
public import proofs.«01_k».proof.Proof.PreRead
public import proofs.«01_k».proof.Proof.Proj
public import proofs.«01_k».proof.Proof.Out
public import proofs.«01_k».proof.Proof.Ada
public import proofs.«01_k».proof.Proof.Bias
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The reference runs, leaves its arguments as they were, and declares no semaphore. -/
theorem frame_ReferenceIdeal : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run m ρ)

/-- Every position of the queries, keys and values is given by its three coordinates. -/
theorem real3_of {n0 n1 n2 : ℕ} {f : (⟨3, ![n0, n1, n2]⟩ : Shape).Idx → EReal} (h : ∀ a b c, ∃ t : ℝ, f (ix3 a b c) = t)
    (y : (⟨3, ![n0, n1, n2]⟩ : Shape).Idx) : Cert.Moba.IsReal (f y) := by
  obtain ⟨t, ht⟩ := h (y 0) (y 1) (y 2)
  exact ⟨t, (congrArg f (eq_ix3 y)).trans ht⟩

theorem real4_of {n0 n1 n2 n3 : ℕ} {f : (⟨4, ![n0, n1, n2, n3]⟩ : Shape).Idx → EReal}
    (h : ∀ a b c d, ∃ t : ℝ, f (ix4 a b c d) = t) (y : (⟨4, ![n0, n1, n2, n3]⟩ : Shape).Idx) : Cert.Moba.IsReal (f y) := by
  obtain ⟨t, ht⟩ := h (y 0) (y 1) (y 2) (y 3)
  exact ⟨t, (congrArg f (eq_ix4 y)).trans ht⟩

/-- On real queries, keys and biases the kernel and the reference compute the same numbers. -/
theorem same : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Moba.facts) := by
  pair_intro
  · run_from Cert.KernelIdeal.Gen.run_main m g
  · run_from Cert.ReferenceIdeal.Value.run m' g'
    haveI := Cert.Pre_finite_scores.Moba.facts
    obtain ⟨e0, e1, e2, e3⟩ := hagree c
    have hc := hpre c
    rw [Cert.ReferenceIdeal.Read.val_main_v89_eq, e0, e1, e2, e3]
    refine Eq.trans ?_ (Cert.KernelIdeal.Moba.whole m c).symm
    funext x
    obtain ⟨b, r, s, rfl⟩ : ∃ (b : Fin 8) (r : Fin 512) (s : Fin 2048), x = ix3 b r s := ⟨x 0, x 1, x 2, eq_ix3 x⟩
    rw [Cert.ReferenceIdeal.Moba.result_apply,
      Cert.ReferenceIdeal.Moba.head_apply (real3_of (Cert.Pre_finite_scores.Moba.real0 hc))
        (real3_of (Cert.Pre_finite_scores.Moba.real1 hc)) (real4_of (Cert.Pre_finite_scores.Moba.real3 hc))]
    rfl

theorem frame_Reference2Ideal : Cert.quiescent_Reference2Ideal := by
  intro m ρ _
  exact (θ_run Cert.Reference2Ideal.defs _ _).mono
    (fun r h => ⟨fun c => (h c).2.2.2.2, Idealize.ShloMosaic.sem_eq_zero_of_no_sems (by decide) r.2⟩)
    (Cert.Reference2Ideal.Value.run m ρ)

/-- The kernel and the reference compute the same four projections. -/
theorem same2 : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    · rw [Cert.Reference2Ideal.Read.val_main_v15_eq]
      refine Eq.trans ?_ (Cert.Kernel2Ideal.Proj.whole5 m c).symm
      funext x
      obtain ⟨b, r, s, rfl⟩ : ∃ (b : Fin 8) (r : Fin 512) (s : Fin 2048), x = ix3 b r s := ⟨x 0, x 1, x 2, eq_ix3 x⟩
      exact Cert.Reference2Ideal.Proj.queries_apply _ _ _ b r s
    · rw [Cert.Reference2Ideal.Read.val_main_v17_eq]
      refine Eq.trans ?_ (Cert.Kernel2Ideal.Proj.whole6 m c).symm
      funext x
      obtain ⟨b, r, s, rfl⟩ : ∃ (b : Fin 8) (r : Fin 512) (s : Fin 2048), x = ix3 b r s := ⟨x 0, x 1, x 2, eq_ix3 x⟩
      exact Cert.Reference2Ideal.Proj.values_apply _ _ _ b r s
    · rw [Cert.Reference2Ideal.Read.val_main_v19_eq]
      refine Eq.trans ?_ (Cert.Kernel2Ideal.Proj.whole7 m c).symm
      funext x
      obtain ⟨b, s, r, rfl⟩ : ∃ (b : Fin 8) (s : Fin 2048) (r : Fin 512), x = ix3 b s r := ⟨x 0, x 1, x 2, eq_ix3 x⟩
      exact Cert.Reference2Ideal.Proj.keys_apply _ _ _ b s r
    · rw [Cert.Reference2Ideal.Read.val_main_v20_eq]
      refine Eq.trans ?_ (Cert.Kernel2Ideal.Proj.whole8 m c).symm
      funext x
      obtain ⟨b, s, r, rfl⟩ : ∃ (b : Fin 8) (s : Fin 2048) (r : Fin 1536), x = ix3 b s r := ⟨x 0, x 1, x 2, eq_ix3 x⟩
      exact Cert.Reference2Ideal.Proj.others_apply _ _ _ b s r

theorem frame_Reference3Ideal : Cert.quiescent_Reference3Ideal := by
  intro m ρ _
  exact (θ_run Cert.Reference3Ideal.defs _ _).mono
    (fun r h => ⟨fun c => (h c).2.2, Idealize.ShloMosaic.sem_eq_zero_of_no_sems (by decide) r.2⟩)
    (Cert.Reference3Ideal.Value.run m ρ)

section outproj
variable {m : (ℓ : Loc Cert.Kernel3Ideal.nD Cert.Kernel3Ideal.τ Cert.Kernel3Ideal.sig) → Buf (Elt Ideal) ℓ}
    {m' : (ℓ : Loc Cert.Reference3Ideal.nD Cert.Reference3Ideal.τ Cert.Reference3Ideal.sig) → Buf (Elt Ideal) ℓ}
    {c : Dev Cert.Kernel3Ideal.nD}
    (e0 : m' ((c.tc : Thread Cert.Reference3Ideal.nD Cert.Reference3Ideal.τ).loc Cert.Reference3Ideal.main_arg0)
      = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1)
      = m ((c.tc : Thread Cert.Kernel3Ideal.nD Cert.Kernel3Ideal.τ).loc Cert.Kernel3Ideal.main_arg1))
    (e2 : m' ((c.tc : Thread Cert.Reference3Ideal.nD Cert.Reference3Ideal.τ).loc Cert.Reference3Ideal.main_arg2)
      = m ((c.tc : Thread Cert.Kernel3Ideal.nD Cert.Kernel3Ideal.τ).loc Cert.Kernel3Ideal.main_arg2))
    (e3 : m' ((c.tc : Thread Cert.Reference3Ideal.nD Cert.Reference3Ideal.τ).loc Cert.Reference3Ideal.main_arg3)
      = m ((c.tc : Thread Cert.Kernel3Ideal.nD Cert.Kernel3Ideal.τ).loc Cert.Kernel3Ideal.main_arg3))
    (e4 : m' ((c.tc : Thread Cert.Reference3Ideal.nD Cert.Reference3Ideal.τ).loc Cert.Reference3Ideal.main_arg4)
      = m ((c.tc : Thread Cert.Kernel3Ideal.nD Cert.Kernel3Ideal.τ).loc Cert.Kernel3Ideal.main_arg4))
    (e5 : m' ((c.tc : Thread Cert.Reference3Ideal.nD Cert.Reference3Ideal.τ).loc Cert.Reference3Ideal.main_arg5)
      = m ((c.tc : Thread Cert.Kernel3Ideal.nD Cert.Kernel3Ideal.τ).loc Cert.Kernel3Ideal.main_arg5))
    (e6 : m' ((c.tc : Thread Cert.Reference3Ideal.nD Cert.Reference3Ideal.τ).loc Cert.Reference3Ideal.main_arg6)
      = m ((c.tc : Thread Cert.Kernel3Ideal.nD Cert.Kernel3Ideal.τ).loc Cert.Kernel3Ideal.main_arg6))
    (e7 : m' ((c.tc : Thread Cert.Reference3Ideal.nD Cert.Reference3Ideal.τ).loc Cert.Reference3Ideal.main_arg7)
      = m ((c.tc : Thread Cert.Kernel3Ideal.nD Cert.Kernel3Ideal.τ).loc Cert.Kernel3Ideal.main_arg7))
    (e8 : m' ((c.tc : Thread Cert.Reference3Ideal.nD Cert.Reference3Ideal.τ).loc Cert.Reference3Ideal.main_arg8)
      = m ((c.tc : Thread Cert.Kernel3Ideal.nD Cert.Kernel3Ideal.τ).loc Cert.Kernel3Ideal.main_arg8))
    (e9 : m' ((c.tc : Thread Cert.Reference3Ideal.nD Cert.Reference3Ideal.τ).loc Cert.Reference3Ideal.main_arg9)
      = m ((c.tc : Thread Cert.Kernel3Ideal.nD Cert.Kernel3Ideal.τ).loc Cert.Kernel3Ideal.main_arg9))
include e0 e1 e2 e3 e4 e5 e6 e7 e8 e9

theorem stream_eq : Cert.Reference3Ideal.Value.res_main_v67 m' c
    = (Cert.Kernel3Ideal.Gen.dats m 0 c).arrAt 12 Cert.Kernel3Ideal.cfg0.N := by
  refine ((Cert.Reference3Ideal.Read.val_main_v67_eq m' c).trans ?_).trans (Cert.Kernel3Ideal.Out.whole12 m c).symm
  rewrite [e0, e1, e2, e3, e4, e5, e6, e7, e8, e9]
  funext x
  obtain ⟨b, s, e, rfl⟩ : ∃ (b : Fin 8) (s : Fin 2048) (e : Fin 1024), x = ix3 b s e := ⟨x 0, x 1, x 2, eq_ix3 x⟩
  exact Cert.Reference3Ideal.Out.stream_apply _ _ _ _ _ _ _ _ _ _ b s e

theorem next_eq : Cert.Reference3Ideal.Value.res_main_v74 m' c
    = (Cert.Kernel3Ideal.Gen.dats m 0 c).arrAt 13 Cert.Kernel3Ideal.cfg0.N := by
  refine ((Cert.Reference3Ideal.Read.val_main_v74_eq m' c).trans ?_).trans (Cert.Kernel3Ideal.Out.whole13 m c).symm
  rewrite [e0, e1, e2, e3, e4, e5, e6, e7, e8, e9]
  funext x
  obtain ⟨b, s, e, rfl⟩ : ∃ (b : Fin 8) (s : Fin 2048) (e : Fin 1024), x = ix3 b s e := ⟨x 0, x 1, x 2, eq_ix3 x⟩
  exact Cert.Reference3Ideal.Out.next_apply _ _ _ _ _ _ _ _ _ _ b s e

end outproj

/-- The kernel and the reference compute the same residual stream and the same modulated input of the next part. -/
theorem same3 : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    all_goals obtain ⟨e0, e1, e2, e3, e4, e5, e6, e7, e8, e9⟩ := hagree c
    · exact stream_eq e0 e1 e2 e3 e4 e5 e6 e7 e8 e9
    · exact next_eq e0 e1 e2 e3 e4 e5 e6 e7 e8 e9

theorem frame_Reference4Ideal : Cert.quiescent_Reference4Ideal := by
  intro m ρ _
  exact (θ_run Cert.Reference4Ideal.defs _ _).mono
    (fun r h => ⟨fun c => (h c).2, Idealize.ShloMosaic.sem_eq_zero_of_no_sems (by decide) r.2⟩)
    (Cert.Reference4Ideal.Value.run m ρ)

/-- The kernel and the reference compute the same modulation rows. -/
theorem same4 : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    rw [Cert.Reference4Ideal.Read.val_main_v4_eq]
    refine Eq.trans ?_ (Cert.Kernel4Ideal.Ada.whole3 m c).symm
    funext x
    obtain ⟨b, r, rfl⟩ : ∃ (b : Fin 8) (r : Fin 6144), x = ix2 b r := ⟨x 0, x 1, eq_ix2 x⟩
    exact Cert.Reference4Ideal.Ada.result_apply _ _ _ b r

theorem frame_Reference5Ideal : Cert.quiescent_Reference5Ideal := by
  intro m ρ _
  exact (θ_run Cert.Reference5Ideal.defs _ _).mono
    (fun r h => ⟨fun c => (h c).2.2, Idealize.ShloMosaic.sem_eq_zero_of_no_sems (by decide) r.2⟩)
    (Cert.Reference5Ideal.Value.run m ρ)

/-- The kernel and the reference compute the same bias tiles of the block attention and of the dilated attention. -/
theorem same5 : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · run_from Cert.Reference5Ideal.Value.run m' g'
    · refine ((Cert.Reference5Ideal.Read.val_main_v100_eq _).trans ?_).trans (Cert.Kernel5Ideal.Bias.whole1 m c).symm
      funext x
      obtain ⟨h, a, k, q, rfl⟩ : ∃ (h a : Fin 8) (k q : Fin 256), x = ix4 h a k q := ⟨x 0, x 1, x 2, x 3, eq_ix4 x⟩
      exact Cert.Reference5Ideal.Bias.moba_apply _ h a k q
    · refine ((Cert.Reference5Ideal.Read.val_main_v101_eq m' c).trans ?_).trans (Cert.Kernel5Ideal.Bias.whole2 m c).symm
      rewrite [hagree c]
      funext x
      obtain ⟨h, a, k, q, rfl⟩ : ∃ (h : Fin 8) (a : Fin 3) (k : Fin 128) (q : Fin 256), x = ix4 h a k q :=
        ⟨x 0, x 1, x 2, x 3, eq_ix4 x⟩
      exact Cert.Reference5Ideal.Bias.dil_apply _ h a k q

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_scores.Moba.facts,
    fun m ρ _ => Cert.Kernel.Gen.frame m ρ, fun m ρ _ => Cert.KernelIdeal.Gen.frame m ρ,
    fun m ρ _ => Cert.KernelIdeal.Gen.frame m ρ, frame_ReferenceIdeal,
    fun m ρ h => frame_ReferenceIdeal m ρ trivial,
    fun m ρ _ => Cert.Kernel2.Gen.frame m ρ, fun m ρ _ => Cert.Kernel2Ideal.Gen.frame m ρ, frame_Reference2Ideal,
    fun m ρ _ => Cert.Kernel3.Gen.frame m ρ, fun m ρ _ => Cert.Kernel3Ideal.Gen.frame m ρ, frame_Reference3Ideal,
    fun m ρ _ => Cert.Kernel4.Gen.frame m ρ, fun m ρ _ => Cert.Kernel4Ideal.Gen.frame m ρ, frame_Reference4Ideal,
    fun m ρ _ => Cert.Kernel5.Gen.frame m ρ, fun m ρ _ => Cert.Kernel5Ideal.Gen.frame m ρ, frame_Reference5Ideal,
    IdealRules.named_const.statement Cert.KernelIdeal.κ "mask" .f32 0xF149F2CA#32 ⊥ rfl,
    same, trivial, same2, trivial, same3, trivial, same4, trivial, same5⟩

end Cert.Proof

end
